-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v8_6) = v1 c
          ∧ r.2.mem ((c.tc : Thread Cert.ReferenceIdeal.nD Cert.ReferenceIdeal.τ).loc Cert.ReferenceIdeal.main_v8_7) = v2 c
          ∧ r.2.mem ((c.tc : Thread Cert.ReferenceIdeal.nD Cert.ReferenceIdeal.τ).loc Cert.ReferenceIdeal.main_v8_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64x128 : Shape := ⟨3, ![1024, 64, 128]⟩
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S128 : Shape := ⟨1, ![128]⟩
abbrev S512x1024 : Shape := ⟨2, ![512, 1024]⟩
abbrev S1024x512 : Shape := ⟨2, ![1024, 512]⟩
abbrev S1x512 : Shape := ⟨2, ![1, 512]⟩
abbrev S1x128 : Shape := ⟨2, ![1, 128]⟩
abbrev S1024x64x512 : Shape := ⟨3, ![1024, 64, 512]⟩
abbrev S32x64x128 : Shape := ⟨3, ![32, 64, 128]⟩
abbrev S32x64x512 : Shape := ⟨3, ![32, 64, 512]⟩
abbrev S64x1024 : Shape := ⟨2, ![64, 1024]⟩
abbrev S2048x128 : Shape := ⟨2, ![2048, 128]⟩
abbrev S2048x512 : Shape := ⟨2, ![2048, 512]⟩
abbrev S64x512 : Shape := ⟨2, ![64, 512]⟩
abbrev S1x64x512 : Shape := ⟨3, ![1, 64, 512]⟩

abbrev nBuf : Space → Nat
  | .hbm => 18
  | .vmem => 17
  | .smem => 0
  | _ => 0

abbrev bufTy : (tb : Table) → Fin (tcTables nBuf tb) → BufTy
  | .hbm, ⟨0, _⟩ => ⟨S1024x64x128, .f32⟩
  | .hbm, ⟨1, _⟩ => ⟨S512x128, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S128x512, .f32⟩
  | .hbm, ⟨6, _⟩ => ⟨S128, .f32⟩
  | .hbm, ⟨7, _⟩ => ⟨S128x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S512x128, .f32⟩
  | .hbm, ⟨12, _⟩ => ⟨S1x512, .f32⟩
  | .hbm, ⟨13, _⟩ => ⟨S1x128, .f32⟩
  | .hbm, ⟨14, _⟩ => ⟨S1024x64x128, .f32⟩
  | .hbm, ⟨15, _⟩ => ⟨S1024x64x512, .f32⟩
  | .hbm, ⟨16, _⟩ => ⟨S1024x64x512, .f32⟩
  | .hbm, ⟨17, _⟩ => ⟨S1024x64x512, .f32⟩
  | .local _ .vmem, ⟨0, _⟩ => ⟨S32x64x128, .f32⟩
  | .local _ .vmem, ⟨1, _⟩ => ⟨S32x64x128, .f32⟩
  | .local _ .vmem, ⟨2, _⟩ => ⟨S128x512, .f32⟩
  | .local _ .vmem, ⟨3, _⟩ => ⟨S1x512, .f32⟩
  | .local _ .vmem, ⟨4, _⟩ => ⟨S1024x512, .bf16⟩
  | .local _ .vmem, ⟨5, _⟩ => ⟨S512x128, .f32⟩
  | .local _ .vmem, ⟨6, _⟩ => ⟨S1x128, .f32⟩
  | .local _ .vmem, ⟨7, _⟩ => ⟨S32x64x128, .f32⟩
  | .local _ .vmem, ⟨8, _⟩ => ⟨S32x64x128, .f32⟩
  | .local _ .vmem, ⟨9, _⟩ => ⟨S32x64x512, .f32⟩
  | .local _ .vmem, ⟨10, _⟩ => ⟨S32x64x512, .f32⟩
  | .local _ .vmem, ⟨11, _⟩ => ⟨S32x64x512, .f32⟩
  | .local _ .vmem, ⟨12, _⟩ => ⟨S32x64x512, .f32⟩
  | .local _ .vmem, ⟨13, _⟩ => ⟨S32x64x512, .f32⟩
  | .local _ .vmem, ⟨14, _⟩ => ⟨S32x64x512, .f32⟩
  | .local _ .vmem, ⟨15, _⟩ => ⟨S64x1024, .f32⟩
  | .local _ .vmem, ⟨16, _⟩ => ⟨S32x64x512, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_10 : BitVec 32 := 0#32
  let c32_i32 : BitVec 32 := 32#32
  let v16 : BitVec 32 := Scalar.addi c0_i32_10 c32_i32
  let c1_i32 : BitVec 32 := 1#32
  ⟨c0_i32_10, v16, c1_i32⟩
def k0_off1 (k0_t1 : Fin k0_t1_loop.trips) : Fin 3 → Nat :=
  let c0_i32_10 : BitVec 32 := 0#32
  let c1_i32 : BitVec 32 := 1#32
  let arg13 : BitVec 32 := Scf.iv c0_i32_10 c1_i32 k0_t1
  let v34 : Index := Scalar.indexCast arg13
  let c0_28 : Index := 0#32
  let c0_29 : Index := 0#32
  ![v34.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x64x128 : Shape := ⟨3, ![1024, 64, 128]⟩
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S128 : Shape := ⟨1, ![128]⟩
abbrev S1024x64x512 : Shape := ⟨3, ![1024, 64, 512]⟩
abbrev S1x1x512 : Shape := ⟨3, ![1, 1, 512]⟩
abbrev S_ : Shape := ⟨0, ![]⟩
abbrev S64x512 : Shape := ⟨2, ![64, 512]⟩
abbrev S1x64x512 : Shape := ⟨3, ![1, 64, 512]⟩
abbrev S1x1x128 : Shape := ⟨3, ![1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S1024x64x128, .f32⟩
  | .hbm, ⟨1, _⟩ => ⟨S512x128, .f32⟩
  | .hbm, ⟨2, _⟩ => ⟨S512, .f32⟩
  | .hbm, ⟨3, _⟩ => ⟨S512x512, .f32⟩
  | .hbm, ⟨4, _⟩ => ⟨S512x512, .f32⟩
  | .hbm, ⟨5, _⟩ => ⟨S128x512, .f32⟩
  | .hbm, ⟨6, _⟩ => ⟨S128, .f32⟩
  | .hbm, ⟨7, _⟩ => ⟨S1024x64x512, .f32⟩
  | .hbm, ⟨8, _⟩ => ⟨S1x1x512, .f32⟩
  | .hbm, ⟨9, _⟩ => ⟨S1024x64x512, .f32⟩
  | .hbm, ⟨10, _⟩ => ⟨S1024x64x512, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S1024x64x512, .f32⟩
  | .hbm, ⟨15, _⟩ => ⟨S_, .f32⟩
  | .hbm, ⟨16, _⟩ => ⟨S1024x64x512, .f32⟩
  | .hbm, ⟨17, _⟩ => ⟨S_, .f32⟩
  | .hbm, ⟨18, _⟩ => ⟨S1024x64x512, .f32⟩
  | .hbm, ⟨19, _⟩ => ⟨S_, .i32⟩
  | .hbm, ⟨20, _⟩ => ⟨S1024x64x512, .f32⟩
  | .hbm, ⟨21, _⟩ => ⟨S512x512, .f32⟩
  | .hbm, ⟨22, _⟩ => ⟨S512x512, .f32⟩
  | .hbm, ⟨23, _⟩ => ⟨S_, .i32⟩
  | .hbm, ⟨24, _⟩ => ⟨S64x512, .f32⟩
  | .hbm, ⟨25, _⟩ => ⟨S64x512, .f32⟩
  | .hbm, ⟨26, _⟩ => ⟨S1024x64x512, .f32⟩
  | .hbm, ⟨27, _⟩ => ⟨S1024x64x512, .f32⟩
  | .hbm, ⟨28, _⟩ => ⟨S1024x64x512, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x64x512, .f32⟩
  | .hbm, ⟨34, _⟩ => ⟨S64x512, .f32⟩
  | .hbm, ⟨35, _⟩ => ⟨S512x512, .f32⟩
  | .hbm, ⟨36, _⟩ => ⟨S64x512, .f32⟩
  | .hbm, ⟨37, _⟩ => ⟨S512x512, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512, .f32⟩
  | .hbm, ⟨46, _⟩ => ⟨S_, .f32⟩
  | .hbm, ⟨47, _⟩ => ⟨S64x512, .f32⟩
  | .hbm, ⟨48, _⟩ => ⟨S64x512, .f32⟩
  | .hbm, ⟨49, _⟩ => ⟨S64x512, .f32⟩
  | .hbm, ⟨50, _⟩ => ⟨S_, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S_, .f32⟩
  | .hbm, ⟨55, _⟩ => ⟨S64x512, .f32⟩
  | .hbm, ⟨56, _⟩ => ⟨S64x512, .f32⟩
  | .hbm, ⟨57, _⟩ => ⟨S64x512, .f32⟩
  | .hbm, ⟨58, _⟩ => ⟨S1x64x512, .f32⟩
  | .hbm, ⟨59, _⟩ => ⟨S_, .i32⟩
  | .hbm, ⟨60, _⟩ => ⟨S_, .i32⟩
  | .hbm, ⟨61, _⟩ => ⟨S1024x64x512, .f32⟩
  | .hbm, ⟨62, _⟩ => ⟨S1x64x512, .f32⟩
  | .hbm, ⟨63, _⟩ => ⟨S_, .i32⟩
  | .hbm, ⟨64, _⟩ => ⟨S_, .i32⟩
  | .hbm, ⟨65, _⟩ => ⟨S1024x64x512, .f32⟩
  | .hbm, ⟨66, _⟩ => ⟨S1x64x512, .f32⟩
  | .hbm, ⟨67, _⟩ => ⟨S_, .i32⟩
  | .hbm, ⟨68, _⟩ => ⟨S_, .i32⟩
  | .hbm, ⟨69, _⟩ => ⟨S1024x64x512, .f32⟩
  | .hbm, ⟨70, _⟩ => ⟨S_, .i32⟩
  | .hbm, ⟨71, _⟩ => ⟨S_, .i32⟩
  | .hbm, ⟨72, _⟩ => ⟨S1024x64x128, .f32⟩
  | .hbm, ⟨73, _⟩ => ⟨S1x1x128, .f32⟩
  | .hbm, ⟨74, _⟩ => ⟨S1024x64x128, .f32⟩
  | .hbm, ⟨75, _⟩ => ⟨S1024x64x128, .f32⟩
  | _, _ => ⟨S1024x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_c : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_while0c_c_11 : Ref sig .tc := ⟨.hbm, 29, rfl⟩
abbrev main_while0c_v13 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_cst_11 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_cst_12 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_cst_13 : Ref sig .tc := ⟨.hbm, 50, rfl⟩
abbrev main_while0b_v27 : Ref sig .tc := ⟨.hbm, 51, rfl⟩
abbrev main_while0b_v28 : Ref sig .tc := ⟨.hbm, 52, rfl⟩
abbrev main_while0b_v29 : Ref sig .tc := ⟨.hbm, 53, rfl⟩
abbrev main_while0b_cst_14 : Ref sig .tc := ⟨.hbm, 54, rfl⟩
abbrev main_while0b_v30 : Ref sig .tc := ⟨.hbm, 55, rfl⟩
abbrev main_while0b_v31 : Ref sig .tc := ⟨.hbm, 56, rfl⟩
abbrev main_while0b_v32 : Ref sig .tc := ⟨.hbm, 57, rfl⟩
abbrev main_while0b_call1_v0 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_v33 : Ref sig .tc := ⟨.hbm, 61, rfl⟩
abbrev main_while0b_call2_v0 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_v34 : Ref sig .tc := ⟨.hbm, 65, rfl⟩
abbrev main_while0b_call3_v0 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_v35 : Ref sig .tc := ⟨.hbm, 69, rfl⟩
abbrev main_while0b_c_15 : Ref sig .tc := ⟨.hbm, 70, rfl⟩
abbrev main_while0b_v36 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩

abbrev nD : Nat := 1
abbrev τ : Topo := Topo.v7x

variable {F : FTy → Type} [FloatOps F]

abbrev main_while0_count : Scf.Loop 32 := ⟨0#32, 1024#32, 1#32⟩
-- ==== Proof.Transfer.lean ====
/-
  The kernel's program over words and its ideal program are one text, printed twice, with no operation rewritten. So
  what is proved of the ideal program at every reading of floats holds of the kernel's program too.
-/
module

public import proofs.«01_k».proof.Defs
public import proofs.«01_k».proof.Proof.Gen.Kernel
public import proofs.«01_k».proof.Proof.Gen.KernelIdeal

@[expose] public section

set_option maxRecDepth 16384

noncomputable section

namespace Cert.Own

open Idealize.ShloMosaic Idealize.SL.Sem

/-- Both programs declare the same buffers. -/
theorem sig_eq : Cert.Kernel.sig = Cert.KernelIdeal.sig := rfl

variable {F : FTy → Type} [FloatOps F]

/-- Both run the same kernel body. -/
theorem body_eq : @Cert.Kernel.cc0_cornn_fused F _ Cert.Kernel.Gen.facts = @Cert.KernelIdeal.cc0_cornn_fused F _ Cert.KernelIdeal.Gen.facts := rfl

/-- Both lay out the same pipelined region. -/
theorem pcfgs_eq : Cert.Kernel.pcfgs (F := F) = Cert.KernelIdeal.pcfgs (F := F) := rfl

/-- Both define the same body at each label, before the pipeline's own. -/
theorem row_eq : Cert.Kernel.defs₀ (F := F) = Cert.KernelIdeal.defs₀ (F := F) := by
  unfold Cert.Kernel.defs₀ Cert.KernelIdeal.defs₀
  apply congrArg
  funext l a
  match l, a with
  | 0, (t, s) => rfl

/-- Both have the same table of bodies. -/
theorem defs_eq : Cert.Kernel.defs (F := F) = Cert.KernelIdeal.defs (F := F) :=
  congrArg (Pipeline.defs (Cert.KernelIdeal.pcfgs (F := F))) row_eq

/-- Both have the same host program. -/
theorem main_eq : Cert.Kernel.main (F := F) = Cert.KernelIdeal.main (F := F) := rfl

end Cert.Own
end
-- ==== Proof.KernelStep.lean ====
/-
  One chunk of the kernel as plain functions of vectors. A chunk is thirty-two time steps; the state of the
  oscillators before a step is the 64 × 1024 array [hy | hz]. Nothing here speaks of memory: a step takes the state,
  the coupling matrix and one time row of the external input, and gives the next state; `stateAt` repeats it, and
  the three blocks collect what each step leaves.
-/
module

public import proofs.«01_k».proof.Proof.Gen.KernelIdeal
public import proofs.«01_k».proof.Proof.Gen.KernelIdeal.Skeleton
public import Idealize.ShloMosaic.Lib.VecWindow
public import Idealize.ShloMosaic.Lib.Pointwise

@[expose] public section

set_option maxRecDepth 16384

noncomputable section

namespace Cert.Own

open Idealize.ShloMosaic Idealize.SL.Sem Cert.KernelIdeal Cert.KernelIdeal.Gen

variable {F : FTy → Type} [FloatOps F]

/-- Time row `t` of a thirty-two-row block, as a one-row block. -/
def row (X : Vec F S32x64x512 .f32) (t : ℕ) : Vec F S1x64x512 .f32 :=
  fun y => X (ix3 (n0 := 32) (n1 := 64) (n2 := 512) ⟨t % 32, Nat.mod_lt _ (by decide)⟩ (y 1) (y 2))

/-- The state array [hy | hz]: the first 512 columns from `hy`, the others from `hz`. -/
def joined (hy hz : Vec F S64x512 .f32) : Vec F S64x1024 .f32 :=
  fun y => if h : (y 1).val < 512 then hy (ix2 (n0 := 64) (n1 := 512) (y 0) ⟨(y 1).val, h⟩)
    else hz (ix2 (n0 := 64) (n1 := 512) (y 0) ⟨(y 1).val - 512, by have : (y 1).val < 1024 := (y 1).isLt; omega⟩)

/-- The state after one step from the state `s`, with coupling `w` and external input row `e`. -/
def next (w : Vec F S1024x512 .bf16) (e : Vec F S1x64x512 .f32) (s : Vec F S64x1024 .f32) : Vec F S64x1024 .f32 :=
  joined (k0_pay4 s w e) (k0_pay3 s w e)

/-- The state before step `t` of a chunk that starts at `s`, the chunk's external input being `X`. -/
def stateAt (w : Vec F S1024x512 .bf16) (X : Vec F S32x64x512 .f32) (s : Vec F S64x1024 .f32) : ℕ → Vec F S64x1024 .f32
  | 0 => s
  | t + 1 => next w (row X t) (stateAt w X s t)

/-- One more step of a chunk is one more `next`. -/
theorem stateAt_succ (w : Vec F S1024x512 .bf16) (X : Vec F S32x64x512 .f32) (s : Vec F S64x1024 .f32) (t : ℕ) :
    stateAt w X s (t + 1) = next w (row X t) (stateAt w X s t) := rfl

/-- A block of thirty-two rows given by what each time step leaves as its row. -/
def collect (f : ℕ → Vec F S1x64x512 .f32) : Vec F S32x64x512 .f32 :=
  fun y => f (y 0).val (ix3 (n0 := 1) (n1 := 64) (n2 := 512) 0 (y 1) (y 2))

/-- The row of activations step `t` leaves. -/
def actRow (w : Vec F S1024x512 .bf16) (X : Vec F S32x64x512 .f32) (s : Vec F S64x1024 .f32) (t : ℕ) : Vec F S1x64x512 .f32 :=
  k0_pay5 (stateAt w X s t) w (row X t)

/-- The row of positions step `t` leaves. -/
def hyRow (w : Vec F S1024x512 .bf16) (X : Vec F S32x64x512 .f32) (s : Vec F S64x1024 .f32) (t : ℕ) : Vec F S1x64x512 .f32 :=
  k0_pay6 (stateAt w X s t) w (row X t)

/-- The row of velocities step `t` leaves. -/
def hzRow (w : Vec F S1024x512 .bf16) (X : Vec F S32x64x512 .f32) (s : Vec F S64x1024 .f32) (t : ℕ) : Vec F S1x64x512 .f32 :=
  k0_pay7 (stateAt w X s t) w (row X t)

/-- `x` agrees with the collected rows of `f` below row `k`. -/
def FilledTo (f : ℕ → Vec F S1x64x512 .f32) (k : ℕ) (x : Vec F S32x64x512 .f32) : Prop :=
  ∀ y : S32x64x512.Idx, (y 0).val < k → x y = collect f y

/-- Before the first step nothing is asked of a block. -/
theorem FilledTo.zero (f : ℕ → Vec F S1x64x512 .f32) (x : Vec F S32x64x512 .f32) : FilledTo f 0 x :=
  fun _ h => absurd h (Nat.not_lt_zero _)

/-- After all thirty-two steps the block is the collected rows. -/
theorem FilledTo.eq {f : ℕ → Vec F S1x64x512 .f32} {k : ℕ} {x : Vec F S32x64x512 .f32} (h : FilledTo f k x) (hk : 32 ≤ k) :
    x = collect f :=
  funext fun y => h y (Nat.lt_of_lt_of_le (y 0).isLt hk)

/-- Storing the next row keeps the rows before it and adds one. -/
theorem FilledTo.put {f : ℕ → Vec F S1x64x512 .f32} {k : ℕ} {x : Vec F S32x64x512 .f32} (h : FilledTo f k x) :
    FilledTo f (k + 1) (VecWindow.put x ![k, 0, 0] S1x64x512.size (f k)) := by
  intro y hy
  have h1 : (y 1).val < 64 := (y 1).isLt
  have h2 : (y 2).val < 512 := (y 2).isLt
  unfold VecWindow.put
  by_cases e : (y 0).val = k
  · have hw : ∀ a, (![k, 0, 0] : Fin 3 → ℕ) a ≤ (y a).val ∧ (y a).val < (![k, 0, 0] : Fin 3 → ℕ) a + S1x64x512.size a := by
      intro a
      match a with
      | 0 => exact ⟨e.ge, by show (y 0).val < k + 1; omega⟩
      | 1 => exact ⟨Nat.zero_le _, by show (y 1).val < 0 + 64; omega⟩
      | 2 => exact ⟨Nat.zero_le _, by show (y 2).val < 0 + 512; omega⟩
    rw [dif_pos hw]
    unfold collect
    rw [e]
    refine congrArg (f k) (funext fun a => Fin.ext ?_)
    match a with
    | 0 => show (y 0).val - k = 0; omega
    | 1 => rfl
    | 2 => rfl
  · have hw : ¬ ∀ a, (![k, 0, 0] : Fin 3 → ℕ) a ≤ (y a).val ∧ (y a).val < (![k, 0, 0] : Fin 3 → ℕ) a + S1x64x512.size a := fun hw => by
      have : k ≤ (y 0).val := (hw 0).1
      omega
    rw [dif_neg hw]
    exact h y (by omega)

/-- The two half-width stores of a step leave the joined state, whatever was there. -/
theorem put_halves (x : Vec F S64x1024 .f32) (hy hz : Vec F S64x512 .f32) :
    VecWindow.put (VecWindow.put x ![0, 0] S64x512.size hy) ![0, 512] S64x512.size hz = joined hy hz := by
  funext y
  have h0 : (y 0).val < 64 := (y 0).isLt
  have h1 : (y 1).val < 1024 := (y 1).isLt
  unfold VecWindow.put joined
  by_cases e : (y 1).val < 512
  · have n2 : ¬ ∀ a, (![0, 512] : Fin 2 → ℕ) a ≤ (y a).val ∧ (y a).val < (![0, 512] : Fin 2 → ℕ) a + S64x512.size a := fun hw => by
      have : 512 ≤ (y 1).val := (hw 1).1
      omega
    have p1 : ∀ a, (![0, 0] : Fin 2 → ℕ) a ≤ (y a).val ∧ (y a).val < (![0, 0] : Fin 2 → ℕ) a + S64x512.size a := by
      intro a
      match a with
      | 0 => exact ⟨Nat.zero_le _, by show (y 0).val < 0 + 64; omega⟩
      | 1 => exact ⟨Nat.zero_le _, by show (y 1).val < 0 + 512; omega⟩
    rw [dif_neg n2, dif_pos p1, dif_pos e]
    refine congrArg hy (funext fun a => Fin.ext ?_)
    match a with
    | 0 => rfl
    | 1 => rfl
  · have p2 : ∀ a, (![0, 512] : Fin 2 → ℕ) a ≤ (y a).val ∧ (y a).val < (![0, 512] : Fin 2 → ℕ) a + S64x512.size a := by
      intro a
      match a with
      | 0 => exact ⟨Nat.zero_le _, by show (y 0).val < 0 + 64; omega⟩
      | 1 => exact ⟨by show 512 ≤ (y 1).val; omega, by show (y 1).val < 512 + 512; omega⟩
    rw [dif_pos p2, dif_neg e]
    refine congrArg hz (funext fun a => Fin.ext ?_)
    match a with
    | 0 => rfl
    | 1 => rfl

end Cert.Own
end
-- ==== Proof.KernelTrip.lean ====
/-
  One trip of the kernel's time loop, run: from the state scratch at `s` and the three output blocks at anything, the
  trip leaves the next state in the scratch, and each output block with its time row stored.
-/
module

public import proofs.«01_k».proof.Proof.KernelStep
public import Idealize.ShloMosaic.Lib.Exec
public import Idealize.ShloMosaic.Lib.Tactic
public import Idealize.ShloMosaic.Lib.Pipeline.Kit

@[expose] public section

set_option maxRecDepth 16384

noncomputable section

namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of the row a trip names reads that time row. -/
theorem load_row (v : View sig .tc .vmem S32x64x512 .f32) (f : v.ty.Contents (Elt F)) (k : Fin k0_t1_loop.trips) :
    v.readAt (Elt F) (Rect.unit (s := S32x64x512) (k0_off1 k) S1x64x512.size (k0_off1_inb k)).toLoadRect f = row (v.read (Elt F) f) k.val := by
  have hk : k.val < 32 := Nat.lt_of_lt_of_le k.isLt k0_t1_abs.2.1
  have inb : ∀ a, (![k.val, 0, 0] : Fin 3 → ℕ) a + S1x64x512.size a ≤ S32x64x512.size a := fun a => by
    have := k0_off1_inb k a
    rwa [k0_off1_eq k] at this
  rw [View.readAt_unit v f (k0_off1_inb k) (k0_off1_eq k) inb]
  funext y
  refine congrArg (v.read (Elt F) f) (funext fun a => Fin.ext ?_)
  have h0 : (y 0).val < 1 := (y 0).isLt
  match a with
  | 0 => show k.val + 1 * (y 0).val = k.val % 32; omega
  | 1 => show 0 + 1 * (y 1).val = (y 1).val; omega
  | 2 => show 0 + 1 * (y 2).val = (y 2).val; omega

/-- The first half-width store's value is the new position itself. -/
theorem keep_hy (x : FVec F S64x512 .f32) : k0_pay10 x = x := by
  unfold k0_pay10; exact shapeCast_self _ _

/-- The second half-width store's value is the new velocity itself. -/
theorem keep_hz (x : FVec F S64x512 .f32) : k0_pay11 x = x := by
  unfold k0_pay11; exact shapeCast_self _ _

/-- What one trip holds: the coupling, the external input, the three output blocks and the state. -/
def held (c : Dev nD) (arg4 : Memref sig .tc .vmem S1024x512 .bf16) (arg8 arg9 arg10 : Memref sig .tc .vmem S32x64x512 .f32)
    (arg11 : Memref sig .tc .vmem S64x1024 .f32) (arg12 : Memref sig .tc .vmem S32x64x512 .f32)
    (w : Vec F S1024x512 .bf16) (X x8 x9 x10 : Vec F S32x64x512 .f32) (s : Vec F S64x1024 .f32) : sProp 𝕄 :=
  iprop(owns (c : Thread nD τ) arg4 fullShare w ∗ owns (c : Thread nD τ) arg12 fullShare X ∗ owns (c : Thread nD τ) arg8 fullShare x8
    ∗ owns (c : Thread nD τ) arg9 fullShare x9 ∗ owns (c : Thread nD τ) arg10 fullShare x10 ∗ owns (c : Thread nD τ) arg11 fullShare s)

set_option maxHeartbeats 4000000 in
/-- One trip: the row of the step goes into each output block, and the scratch holds the next state. -/
theorem trip (c : Dev nD) (E : Set ℕ) (i : grid0.Coords) (arg1 : Memref sig .tc .vmem S32x64x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S512x128 .f32) (harg5 : arg5.IsWhole)
    (arg6 : Memref sig .tc .vmem S1x128 .f32) (harg6 : arg6.IsWhole)
    (arg7 : Memref sig .tc .vmem S32x64x128 .f32) (harg7 : arg7.IsWhole)
    (arg8 : Memref sig .tc .vmem S32x64x512 .f32) (harg8 : arg8.IsWhole)
    (arg9 : Memref sig .tc .vmem S32x64x512 .f32) (harg9 : arg9.IsWhole)
    (arg10 : Memref sig .tc .vmem S32x64x512 .f32) (harg10 : arg10.IsWhole)
    (arg11 : Memref sig .tc .vmem S64x1024 .f32) (harg11 : arg11.IsWhole)
    (arg12 : Memref sig .tc .vmem S32x64x512 .f32) (harg12 : arg12.IsWhole)
    (k : Fin k0_t1_loop.trips) (w : Vec F S1024x512 .bf16) (X x8 x9 x10 : Vec F S32x64x512 .f32) (s : Vec F S64x1024 .f32) :
    held c arg4 arg8 arg9 arg10 arg11 arg12 w X x8 x9 x10 s
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => held c arg4 arg8 arg9 arg10 arg11 arg12 w X
            (VecWindow.put x8 ![k.val, 0, 0] S1x64x512.size (k0_pay6 s w (row X k.val)))
            (VecWindow.put x9 ![k.val, 0, 0] S1x64x512.size (k0_pay7 s w (row X k.val)))
            (VecWindow.put x10 ![k.val, 0, 0] S1x64x512.size (k0_pay5 s w (row X k.val)))
            (next w (row X k.val) s)) := by
  have hk : k.val < 32 := Nat.lt_of_lt_of_le k.isLt k0_t1_abs.2.1
  unfold k0_t1_body held owns
  iintro ⟨⟨%f4, %h4, H4⟩, ⟨%f12, %h12, H12⟩, ⟨%f8, %h8, H8⟩, ⟨%f9, %h9, H9⟩, ⟨%f10, %h10, H10⟩, ⟨%f11, %h11, H11⟩⟩
  sl_exec
  sl_step
  isplitl [H4]
  · iexists f4; isplitr; · ipureintro; exact h4
    iexact H4
  isplitl [H12]
  · iexists f12; isplitr; · ipureintro; exact h12
    iexact H12
  isplitl [H8]
  · iexists _; isplitr
    swap; · iexact H8
    ipureintro
    rw [View.read_writes_cons_put _ _ _ _ _ (k0_off1_eq k), View.writes_nil, h8, View.readAt_full, View.readAt_full, load_row, h4, h11, h12]
  isplitl [H9]
  · iexists _; isplitr
    swap; · iexact H9
    ipureintro
    rw [View.read_writes_cons_put _ _ _ _ _ (k0_off1_eq k), View.writes_nil, h9, View.readAt_full, View.readAt_full, load_row, h4, h11, h12]
  isplitl [H10]
  · iexists _; isplitr
    swap; · iexact H10
    ipureintro
    rw [View.read_writes_cons_put _ _ _ _ _ (k0_off1_eq k), View.writes_nil, h10, View.readAt_full, View.readAt_full, load_row, h4, h11, h12]
  iexists _; isplitr
  swap; · iexact H11
  ipureintro
  have hs := (View.readAt_full arg11.view f11 inb_S64x1024_S64x1024_0_0).trans h11
  have hw := (View.readAt_full arg4.view f4 inb_S1024x512_S1024x512_0_0).trans h4
  have he := (load_row arg12.view f12 k).trans (congrArg (fun Z => row Z k.val) h12)
  rw [View.read_writes_cons_put _ _ _ _ _ rfl, View.read_writes_cons_put _ _ _ _ _ rfl, put_halves, keep_hy, keep_hz]
  have h4' : ∀ a b d, a = s → b = w → d = row X k.val → k0_pay4 a b d = k0_pay4 s w (row X k.val) := by
    rintro _ _ _ rfl rfl rfl; rfl
  have h3' : ∀ a b d, a = s → b = w → d = row X k.val → k0_pay3 a b d = k0_pay3 s w (row X k.val) := by
    rintro _ _ _ rfl rfl rfl; rfl
  exact congrArg₂ joined (h4' _ _ _ hs hw he) (h3' _ _ _ hs hw he)

end Cert.Own
end
-- ==== Proof.KernelLoop.lean ====
/-
  The kernel's time loop, by an invariant: before trip `k` the scratch holds the state before step `k`, and each output
  block agrees with its collected rows below row `k`. After the thirty-two trips the blocks are the collected rows.
-/
module

public import proofs.«01_k».proof.Proof.KernelTrip

@[expose] public section

set_option maxRecDepth 16384

noncomputable section

namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The invariant before trip `k`. -/
def loopInv (c : Dev nD) (arg4 : Memref sig .tc .vmem S1024x512 .bf16) (arg8 arg9 arg10 : Memref sig .tc .vmem S32x64x512 .f32)
    (arg11 : Memref sig .tc .vmem S64x1024 .f32) (arg12 : Memref sig .tc .vmem S32x64x512 .f32)
    (w : Vec F S1024x512 .bf16) (X : Vec F S32x64x512 .f32) (s : Vec F S64x1024 .f32) (k : ℕ) (_ : Unit) : sProp 𝕄 :=
  iprop(∃ x8 x9 x10, ⌜FilledTo (hyRow w X s) k x8 ∧ FilledTo (hzRow w X s) k x9 ∧ FilledTo (actRow w X s) k x10⌝
    ∗ held c arg4 arg8 arg9 arg10 arg11 arg12 w X x8 x9 x10 (stateAt w X s k))

/-- One trip keeps the invariant. -/
theorem loop_step (c : Dev nD) (E : Set ℕ) (i : grid0.Coords) (arg1 : Memref sig .tc .vmem S32x64x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S512x128 .f32) (harg5 : arg5.IsWhole)
    (arg6 : Memref sig .tc .vmem S1x128 .f32) (harg6 : arg6.IsWhole)
    (arg7 : Memref sig .tc .vmem S32x64x128 .f32) (harg7 : arg7.IsWhole)
    (arg8 : Memref sig .tc .vmem S32x64x512 .f32) (harg8 : arg8.IsWhole)
    (arg9 : Memref sig .tc .vmem S32x64x512 .f32) (harg9 : arg9.IsWhole)
    (arg10 : Memref sig .tc .vmem S32x64x512 .f32) (harg10 : arg10.IsWhole)
    (arg11 : Memref sig .tc .vmem S64x1024 .f32) (harg11 : arg11.IsWhole)
    (arg12 : Memref sig .tc .vmem S32x64x512 .f32) (harg12 : arg12.IsWhole)
    (w : Vec F S1024x512 .bf16) (X : Vec F S32x64x512 .f32) (s : Vec F S64x1024 .f32) (k : Fin k0_t1_loop.trips) (acc : Unit) :
    loopInv c arg4 arg8 arg9 arg10 arg11 arg12 w X s k.val acc
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 k acc)
          (loopInv c arg4 arg8 arg9 arg10 arg11 arg12 w X s (k.val + 1)) := by
  unfold loopInv
  iintro ⟨%x8, %x9, %x10, %h, H⟩
  iapply (wp_wand_r frame (wpE (defs₀ (F := F)) Variants.none (c : Thread nD τ) none) E)
  isplitl [H]
  · iapply (trip c E i arg1 harg1 arg2 harg2 arg3 harg3 arg4 harg4 arg5 harg5 arg6 harg6 arg7 harg7 arg8 harg8 arg9 harg9 arg10 harg10 arg11 harg11 arg12 harg12 k w X x8 x9 x10 (stateAt w X s k.val))
    iexact H
  iintro %u H
  iexists _, _, _
  isplitr
  swap; · iexact H
  ipureintro
  exact ⟨h.1.put, h.2.1.put, h.2.2.put⟩

/-- The whole loop: from any output blocks to the collected rows, and from the state `s` to the state after thirty-two steps. -/
theorem loop_run (c : Dev nD) (E : Set ℕ) (i : grid0.Coords) (arg1 : Memref sig .tc .vmem S32x64x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S512x128 .f32) (harg5 : arg5.IsWhole)
    (arg6 : Memref sig .tc .vmem S1x128 .f32) (harg6 : arg6.IsWhole)
    (arg7 : Memref sig .tc .vmem S32x64x128 .f32) (harg7 : arg7.IsWhole)
    (arg8 : Memref sig .tc .vmem S32x64x512 .f32) (harg8 : arg8.IsWhole)
    (arg9 : Memref sig .tc .vmem S32x64x512 .f32) (harg9 : arg9.IsWhole)
    (arg10 : Memref sig .tc .vmem S32x64x512 .f32) (harg10 : arg10.IsWhole)
    (arg11 : Memref sig .tc .vmem S64x1024 .f32) (harg11 : arg11.IsWhole)
    (arg12 : Memref sig .tc .vmem S32x64x512 .f32) (harg12 : arg12.IsWhole)
    (w : Vec F S1024x512 .bf16) (X x8 x9 x10 : Vec F S32x64x512 .f32) (s : Vec F S64x1024 .f32)
    {β : Type} {kk : Unit → Prog (TpuEff nD τ sig (Elt F) Λ₀ .tc) β} {K : β → sProp 𝕄} :
    held c arg4 arg8 arg9 arg10 arg11 arg12 w X x8 x9 x10 s
      ⊢ iprop((held c arg4 arg8 arg9 arg10 arg11 arg12 w X (collect (hyRow w X s)) (collect (hzRow w X s)) (collect (actRow w X s)) (stateAt w X s 32)
            -∗ wp frame (wpE (defs₀ (F := F)) Variants.none (c : Thread nD τ) none) E (kk ⟨⟩) K)
          -∗ wp frame (wpE (defs₀ (F := F)) Variants.none (c : Thread nD τ) none) E
              (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12) >>= kk) K) := by
  have ht : Scf.trips k0_t1_loop.lb k0_t1_loop.ub k0_t1_loop.st = 32 := by decide +kernel
  iintro H HK
  iapply (Scf.wp_for_bind frame (wpE (defs₀ (F := F)) Variants.none (c : Thread nD τ) none) E k0_t1_loop.lb k0_t1_loop.ub k0_t1_loop.st k0_t1_ok _ _
    (loopInv c arg4 arg8 arg9 arg10 arg11 arg12 w X s) (loop_step c E i arg1 harg1 arg2 harg2 arg3 harg3 arg4 harg4 arg5 harg5 arg6 harg6 arg7 harg7 arg8 harg8 arg9 harg9 arg10 harg10 arg11 harg11 arg12 harg12 w X s)) $$ [H]
  · unfold loopInv
    iexists x8, x9, x10
    isplitr
    · ipureintro; exact ⟨FilledTo.zero _ _, FilledTo.zero _ _, FilledTo.zero _ _⟩
    iexact H
  iintro %acc Hinv
  unfold loopInv
  icases Hinv with ⟨%y8, %y9, %y10, %h, H⟩
  rw [ht] at h
  obtain ⟨h8, h9, h10⟩ := h
  obtain rfl := h8.eq (Nat.le_refl 32)
  obtain rfl := h9.eq (Nat.le_refl 32)
  obtain rfl := h10.eq (Nat.le_refl 32)
  iapply HK
  rw [ht]
  iexact H

/-- The same where the rest of the program is in two parts, the first ending where a part of the body ends. -/
theorem loop_run_parts (c : Dev nD) (E : Set ℕ) (i : grid0.Coords) (arg1 : Memref sig .tc .vmem S32x64x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S512x128 .f32) (harg5 : arg5.IsWhole)
    (arg6 : Memref sig .tc .vmem S1x128 .f32) (harg6 : arg6.IsWhole)
    (arg7 : Memref sig .tc .vmem S32x64x128 .f32) (harg7 : arg7.IsWhole)
    (arg8 : Memref sig .tc .vmem S32x64x512 .f32) (harg8 : arg8.IsWhole)
    (arg9 : Memref sig .tc .vmem S32x64x512 .f32) (harg9 : arg9.IsWhole)
    (arg10 : Memref sig .tc .vmem S32x64x512 .f32) (harg10 : arg10.IsWhole)
    (arg11 : Memref sig .tc .vmem S64x1024 .f32) (harg11 : arg11.IsWhole)
    (arg12 : Memref sig .tc .vmem S32x64x512 .f32) (harg12 : arg12.IsWhole)
    (w : Vec F S1024x512 .bf16) (X x8 x9 x10 : Vec F S32x64x512 .f32) (s : Vec F S64x1024 .f32)
    {α β : Type} {k1 : Unit → Prog (TpuEff nD τ sig (Elt F) Λ₀ .tc) α} {k2 : α → Prog (TpuEff nD τ sig (Elt F) Λ₀ .tc) β} {K : β → sProp 𝕄} :
    held c arg4 arg8 arg9 arg10 arg11 arg12 w X x8 x9 x10 s
      ⊢ iprop((held c arg4 arg8 arg9 arg10 arg11 arg12 w X (collect (hyRow w X s)) (collect (hzRow w X s)) (collect (actRow w X s)) (stateAt w X s 32)
            -∗ wp frame (wpE (defs₀ (F := F)) Variants.none (c : Thread nD τ) none) E (k1 ⟨⟩ >>= k2) K)
          -∗ wp frame (wpE (defs₀ (F := F)) Variants.none (c : Thread nD τ) none) E
              ((Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12) >>= k1) >>= k2) K) := by
  have e : ((Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12) >>= k1) >>= k2)
      = (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12) >>= fun u => k1 u >>= k2) := Prog.bind_assoc _ _ _
  rw [e]
  exact loop_run c E i arg1 harg1 arg2 harg2 arg3 harg3 arg4 harg4 arg5 harg5 arg6 harg6 arg7 harg7 arg8 harg8 arg9 harg9 arg10 harg10 arg11 harg11 arg12 harg12 w X x8 x9 x10 s (kk := fun u => k1 u >>= k2) (K := K)

end Cert.Own
end
-- ==== Proof.KernelBody.lean ====
/-
  The kernel body on one chunk, run on any whole memrefs: from its six input blocks and the carried state it leaves the
  readout block, the three blocks of rows, and the state after the chunk. The first chunk starts from the zero state,
  whatever the scratch held; a later chunk starts from what the scratch holds.
-/
module

public import proofs.«01_k».proof.Proof.KernelLoop
public import Idealize.ShloMosaic.Lib.Ring
public import Idealize.ShloMosaic.Lib.WordCmp
public import Idealize.ShloMosaic.Lib.Pipeline.FrameBody

@[expose] public section

set_option maxRecDepth 16384

noncomputable section

namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's test for the first chunk, from the grid coordinates. -/
abbrev firstChunk (i : grid0.Coords) : Prop :=
  (Scalar.cmpi .ne (Scalar.extui (Scalar.cmpi .eq (BitVec.ofNat 32 (i 0).val) 0#32)) 0#32) = 1#1

/-- What the body is given: input blocks, outputs and external-input scratch at anything, the state scratch at `s`. -/
def bodyIn (c : Dev nD) (arg1 : Memref sig .tc .vmem S32x64x128 .f32) (arg2 : Memref sig .tc .vmem S128x512 .f32) (arg3 : Memref sig .tc .vmem S1x512 .f32) (arg4 : Memref sig .tc .vmem S1024x512 .bf16) (arg5 : Memref sig .tc .vmem S512x128 .f32) (arg6 : Memref sig .tc .vmem S1x128 .f32) (arg7 : Memref sig .tc .vmem S32x64x128 .f32) (arg8 : Memref sig .tc .vmem S32x64x512 .f32) (arg9 : Memref sig .tc .vmem S32x64x512 .f32) (arg10 : Memref sig .tc .vmem S32x64x512 .f32) (arg11 : Memref sig .tc .vmem S64x1024 .f32) (arg12 : Memref sig .tc .vmem S32x64x512 .f32)
    (x : Vec F S32x64x128 .f32) (wi : Vec F S128x512 .f32) (bi : Vec F S1x512 .f32) (w : Vec F S1024x512 .bf16) (wo : Vec F S512x128 .f32)
    (bo : Vec F S1x128 .f32) (s : Vec F S64x1024 .f32) : sProp 𝕄 :=
  iprop(owns (c : Thread nD τ) arg1 fullShare x ∗ owns (c : Thread nD τ) arg2 fullShare wi ∗ owns (c : Thread nD τ) arg3 fullShare bi
    ∗ owns (c : Thread nD τ) arg4 fullShare w ∗ owns (c : Thread nD τ) arg5 fullShare wo ∗ owns (c : Thread nD τ) arg6 fullShare bo
    ∗ (∃ d, owns (c : Thread nD τ) arg7 fullShare d) ∗ (∃ d, owns (c : Thread nD τ) arg8 fullShare d) ∗ (∃ d, owns (c : Thread nD τ) arg9 fullShare d)
    ∗ (∃ d, owns (c : Thread nD τ) arg10 fullShare d) ∗ owns (c : Thread nD τ) arg11 fullShare s ∗ (∃ d, owns (c : Thread nD τ) arg12 fullShare d))

/-- What the body leaves when the chunk starts at `s`: the inputs as they were, the outputs by name, the state after the chunk. -/
def bodyOut (c : Dev nD) (arg1 : Memref sig .tc .vmem S32x64x128 .f32) (arg2 : Memref sig .tc .vmem S128x512 .f32) (arg3 : Memref sig .tc .vmem S1x512 .f32) (arg4 : Memref sig .tc .vmem S1024x512 .bf16) (arg5 : Memref sig .tc .vmem S512x128 .f32) (arg6 : Memref sig .tc .vmem S1x128 .f32) (arg7 : Memref sig .tc .vmem S32x64x128 .f32) (arg8 : Memref sig .tc .vmem S32x64x512 .f32) (arg9 : Memref sig .tc .vmem S32x64x512 .f32) (arg10 : Memref sig .tc .vmem S32x64x512 .f32) (arg11 : Memref sig .tc .vmem S64x1024 .f32) (arg12 : Memref sig .tc .vmem S32x64x512 .f32)
    (x : Vec F S32x64x128 .f32) (wi : Vec F S128x512 .f32) (bi : Vec F S1x512 .f32) (w : Vec F S1024x512 .bf16) (wo : Vec F S512x128 .f32)
    (bo : Vec F S1x128 .f32) (s : Vec F S64x1024 .f32) : sProp 𝕄 :=
  iprop(owns (c : Thread nD τ) arg1 fullShare x ∗ owns (c : Thread nD τ) arg2 fullShare wi ∗ owns (c : Thread nD τ) arg3 fullShare bi
    ∗ owns (c : Thread nD τ) arg4 fullShare w ∗ owns (c : Thread nD τ) arg5 fullShare wo ∗ owns (c : Thread nD τ) arg6 fullShare bo
    ∗ owns (c : Thread nD τ) arg7 fullShare (k0_pay12 (collect (hyRow w (k0_pay9 x wi bi) s)) wo bo)
    ∗ owns (c : Thread nD τ) arg8 fullShare (collect (hyRow w (k0_pay9 x wi bi) s))
    ∗ owns (c : Thread nD τ) arg9 fullShare (collect (hzRow w (k0_pay9 x wi bi) s))
    ∗ owns (c : Thread nD τ) arg10 fullShare (collect (actRow w (k0_pay9 x wi bi) s))
    ∗ owns (c : Thread nD τ) arg11 fullShare (stateAt w (k0_pay9 x wi bi) s 32) ∗ (∃ d, owns (c : Thread nD τ) arg12 fullShare d))

set_option maxHeartbeats 8000000 in
/-- The body: with `s` in the scratch it computes the chunk from the zero state at the first chunk, else from `s`. -/
theorem body_run (c : Dev nD) (E : Set ℕ) (i : grid0.Coords) (arg1 : Memref sig .tc .vmem S32x64x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S1024x512 .bf16) (harg4 : arg4.IsWhole)
    (arg5 : Memref sig .tc .vmem S512x128 .f32) (harg5 : arg5.IsWhole)
    (arg6 : Memref sig .tc .vmem S1x128 .f32) (harg6 : arg6.IsWhole)
    (arg7 : Memref sig .tc .vmem S32x64x128 .f32) (harg7 : arg7.IsWhole)
    (arg8 : Memref sig .tc .vmem S32x64x512 .f32) (harg8 : arg8.IsWhole)
    (arg9 : Memref sig .tc .vmem S32x64x512 .f32) (harg9 : arg9.IsWhole)
    (arg10 : Memref sig .tc .vmem S32x64x512 .f32) (harg10 : arg10.IsWhole)
    (arg11 : Memref sig .tc .vmem S64x1024 .f32) (harg11 : arg11.IsWhole)
    (arg12 : Memref sig .tc .vmem S32x64x512 .f32) (harg12 : arg12.IsWhole)
    (x : Vec F S32x64x128 .f32) (wi : Vec F S128x512 .f32) (bi : Vec F S1x512 .f32) (w : Vec F S1024x512 .bf16)
    (wo : Vec F S512x128 .f32) (bo : Vec F S1x128 .f32) (s s' : Vec F S64x1024 .f32)
    (hfirst : firstChunk i → s' = k0_pay8) (hlater : ¬firstChunk i → s' = s) (K : PUnit → sProp 𝕄) :
    iprop(bodyIn c arg1 arg2 arg3 arg4 arg5 arg6 arg7 arg8 arg9 arg10 arg11 arg12 x wi bi w wo bo s ∗ (bodyOut c arg1 arg2 arg3 arg4 arg5 arg6 arg7 arg8 arg9 arg10 arg11 arg12 x wi bi w wo bo s' -∗ K ⟨⟩))
      ⊢ wp frame (wpE (defs₀ (F := F)) Variants.none (c : Thread nD τ) none) E (cc0_cornn_fused (F := F) i arg1 harg1 arg2 harg2 arg3 harg3 arg4 harg4 arg5 harg5 arg6 harg6 arg7 harg7 arg8 harg8 arg9 harg9 arg10 harg10 arg11 harg11 arg12 harg12) K := by
  simp only [cc0_cornn_fused_eq_skeleton]; unfold cc0_cornn_fused_skel
  simp only [k0_part2_eq_skeleton]; unfold k0_part2_skel
  unfold bodyIn bodyOut owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%d7, %f7, %h7, H7⟩, ⟨%d8, %f8, %h8, H8⟩, ⟨%d9, %f9, %h9, H9⟩, ⟨%d10, %f10, %h10, H10⟩, ⟨%f11, %h11, H11⟩, ⟨%d12, %f12, %h12, H12⟩⟩, Hk⟩
  by_cases hc : firstChunk i
  case' pos => sl_exec (disch := first | sl_exact hc)
  case' neg => sl_exec (disch := first | sl_exact hc)
  all_goals
    iapply (loop_run_parts c E i arg1 harg1 arg2 harg2 arg3 harg3 arg4 harg4 arg5 harg5 arg6 harg6 arg7 harg7 arg8 harg8 arg9 harg9 arg10 harg10 arg11 harg11 arg12 harg12 w (k0_pay9 x wi bi) d8 d9 d10 s') $$ [H4 H8 H9 H10 H11 H12]
    · unfold held owns
      isplitl [H4]
      · iexists _; isplitr
        swap; · iexact H4
        ipureintro; exact h4
      isplitl [H12]
      · iexists _; isplitr
        swap; · iexact H12
        ipureintro
        rw [View.read_writes_full, View.readAt_full, View.readAt_full, View.readAt_full, h1, h2, h3]
      isplitl [H8]
      · iexists _; isplitr
        swap; · iexact H8
        ipureintro; exact h8
      isplitl [H9]
      · iexists _; isplitr
        swap; · iexact H9
        ipureintro; exact h9
      isplitl [H10]
      · iexists _; isplitr
        swap; · iexact H10
        ipureintro; exact h10
      iexists _; isplitr
      swap; · iexact H11
      ipureintro
      first
        | exact (View.read_writes_full _ _ _ _ _).trans (hfirst hc).symm
        | exact h11.trans (hlater hc).symm
    unfold held owns
    iintro ⟨⟨%g4, %e4, H4⟩, ⟨%g12, %e12, H12⟩, ⟨%g8, %e8, H8⟩, ⟨%g9, %e9, H9⟩, ⟨%g10, %e10, H10⟩, ⟨%g11, %e11, H11⟩⟩
    sl_exec
    sl_step
    iapply Hk
    isplitl [H1]
    · iexists _; isplitr
      swap; · iexact H1
      ipureintro; exact h1
    isplitl [H2]
    · iexists _; isplitr
      swap; · iexact H2
      ipureintro; exact h2
    isplitl [H3]
    · iexists _; isplitr
      swap; · iexact H3
      ipureintro; exact h3
    isplitl [H4]
    · iexists _; isplitr
      swap; · iexact H4
      ipureintro; exact e4
    isplitl [H5]
    · iexists _; isplitr
      swap; · iexact H5
      ipureintro; exact h5
    isplitl [H6]
    · iexists _; isplitr
      swap; · iexact H6
      ipureintro; exact h6
    isplitl [H7]
    · iexists _; isplitr
      swap; · iexact H7
      ipureintro
      refine (View.read_writes_full _ _ _ _ _).trans ?_
      rw [View.readAt_full, View.readAt_full, View.readAt_full, e8, h5, h6]
    isplitl [H8]
    · iexists _; isplitr
      swap; · iexact H8
      ipureintro; exact e8
    isplitl [H9]
    · iexists _; isplitr
      swap; · iexact H9
      ipureintro; exact e9
    isplitl [H10]
    · iexists _; isplitr
      swap; · iexact H10
      ipureintro; exact e10
    isplitl [H11]
    · iexists _; isplitr
      swap; · iexact H11
      ipureintro; exact e11
    iexists _, _; isplitr
    swap; · iexact H12
    ipureintro; exact e12

end Cert.Own
end
-- ==== Proof.KernelLaunch.lean ====
/-
  The whole launch of the kernel: thirty-two grid points, one chunk each, the state of the oscillators carried from
  point to point in the first scratch. `carried` is that state; `chunkHy`, `chunkHz`, `chunkAct` and `chunkOut` are the
  four blocks a point leaves. From the body's run at one point follow the run of the whole program and what each
  array holds at its end (`FramePost` over the named blocks).
-/
module

public import proofs.«01_k».proof.Proof.KernelBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The condition that clears the state holds at the first grid point only. -/
theorem firstChunk_iff : ∀ t : Fin cfg0.N, firstChunk (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [firstChunk, e0]
    word_cmp : ∀ t : Fin grid0.N, firstChunk (grid0.coords t) ↔ t.val = 0)

variable (m : (ℓ : Loc nD τ sig) → Buf (Elt F) ℓ) (ρ : Dev nD → PrngReg)

/-! ## What each point computes -/

/-- The coupling matrix as point `t` sees it. -/
def coupling (c : Dev nD) (t : Fin cfg0.N) : Vec F S1024x512 .bf16 := iblk m c 3 t

/-- The external input of point `t`'s chunk. -/
def external (c : Dev nD) (t : Fin cfg0.N) : Vec F S32x64x512 .f32 := k0_pay9 (iblk m c 0 t) (iblk m c 1 t) (iblk m c 2 t)

/-- The state before chunk `n`: zero at the start, then what the chunk before left. -/
def carried (c : Dev nD) : ℕ → Vec F S64x1024 .f32
  | 0 => k0_pay8
  | n + 1 => if h : n < cfg0.N then stateAt (coupling m c ⟨n, h⟩) (external m c ⟨n, h⟩) (carried c n) 32 else carried c n

/-- The state carried out of point `t` is the one after its thirty-two steps. -/
theorem carried_succ (c : Dev nD) (t : Fin cfg0.N) :
    carried m c (t.val + 1) = stateAt (coupling m c t) (external m c t) (carried m c t.val) 32 := dif_pos t.isLt

/-- The positions of point `t`'s chunk. -/
def chunkHy (c : Dev nD) (t : Fin cfg0.N) : Vec F S32x64x512 .f32 :=
  collect (hyRow (coupling m c t) (external m c t) (carried m c t.val))

/-- The velocities of point `t`'s chunk. -/
def chunkHz (c : Dev nD) (t : Fin cfg0.N) : Vec F S32x64x512 .f32 :=
  collect (hzRow (coupling m c t) (external m c t) (carried m c t.val))

/-- The activations of point `t`'s chunk. -/
def chunkAct (c : Dev nD) (t : Fin cfg0.N) : Vec F S32x64x512 .f32 :=
  collect (actRow (coupling m c t) (external m c t) (carried m c t.val))

/-- The readout of point `t`'s chunk. -/
def chunkOut (c : Dev nD) (t : Fin cfg0.N) : Vec F S32x64x128 .f32 :=
  k0_pay12 (chunkHy m c t) (iblk m c 4 t) (iblk m c 5 t)

/-! ## The scratch -/

/-- The scratch that carries the state. -/
abbrev scState : Memref sig .tc .vmem S64x1024 .f32 := Memref.whole cc0_scratch0

/-- The scratch the external input of a chunk is kept in. -/
abbrev scExternal : Memref sig .tc .vmem S32x64x512 .f32 := Memref.whole cc0_scratch1

/-- What the launch hands the region, read as ownership of the two scratches and the generator register. -/
theorem handed_eq (c : Dev nD) : (Pipeline.ΦA spec0 c : sProp 𝕄)
    = iprop(iprop((∃ d, owns (c : Thread nD τ) scState fullShare d) ∗ (∃ d, owns (c : Thread nD τ) scExternal fullShare d)) ∗ (∃ r, prngReg c r)) := by
  unfold Pipeline.ΦA; rw [scopedRest0_eq]; simp only [scState, scExternal, owns_whole]; try rfl

/-- What is kept between points: before point `n` the state scratch holds the carried state, unless `n` is the first
    point, where it may hold anything. -/
def kept (c : Dev nD) (n : ℕ) : sProp 𝕄 :=
  iprop(iprop((∃ s, ⌜n ≠ 0 → s = carried m c n⌝ ∗ owns (c : Thread nD τ) scState fullShare s)
    ∗ (∃ d, owns (c : Thread nD τ) scExternal fullShare d)) ∗ (∃ r, prngReg c r))

/-! ## The proof data of the pipeline -/

/-- The arrays as the region finds them, what each point leaves in each window, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => chunkOut m c t
    | ⟨7, _⟩ => chunkHy m c t
    | ⟨8, _⟩ => chunkHz m c t
    | ⟨9, _⟩ => chunkAct m c t
  Φ t := kept m c t.val
  q _ := fullShare
  owed _ := 0

/-- Each window's array is the one the region finds. -/
theorem array_eq (c : Dev nD) (w : Fin cfg0.W) : (dats m 0 c).A w = V m c (Pipeline.arrRef spec0 w) := by
  dsimp only [dats]

/-- Input window 0's block is left as it was found. -/
theorem left0 (c : Dev nD) (t : Fin cfg0.N) : (dats m 0 c).after 0 t = iblk m c 0 t := by dsimp only [dats]
/-- Input window 1's block is left as it was found. -/
theorem left1 (c : Dev nD) (t : Fin cfg0.N) : (dats m 0 c).after 1 t = iblk m c 1 t := by dsimp only [dats]
/-- Input window 2's block is left as it was found. -/
theorem left2 (c : Dev nD) (t : Fin cfg0.N) : (dats m 0 c).after 2 t = iblk m c 2 t := by dsimp only [dats]
/-- Input window 3's block is left as it was found. -/
theorem left3 (c : Dev nD) (t : Fin cfg0.N) : (dats m 0 c).after 3 t = iblk m c 3 t := by dsimp only [dats]
/-- Input window 4's block is left as it was found. -/
theorem left4 (c : Dev nD) (t : Fin cfg0.N) : (dats m 0 c).after 4 t = iblk m c 4 t := by dsimp only [dats]
/-- Input window 5's block is left as it was found. -/
theorem left5 (c : Dev nD) (t : Fin cfg0.N) : (dats m 0 c).after 5 t = iblk m c 5 t := by dsimp only [dats]
/-- Output window 6 is left with the chunk's readouts. -/
theorem left6 (c : Dev nD) (t : Fin cfg0.N) : (dats m 0 c).after 6 t = chunkOut m c t := by dsimp only [dats]
/-- Output window 7 is left with the chunk's positions. -/
theorem left7 (c : Dev nD) (t : Fin cfg0.N) : (dats m 0 c).after 7 t = chunkHy m c t := by dsimp only [dats]
/-- Output window 8 is left with the chunk's velocities. -/
theorem left8 (c : Dev nD) (t : Fin cfg0.N) : (dats m 0 c).after 8 t = chunkHz m c t := by dsimp only [dats]
/-- Output window 9 is left with the chunk's activations. -/
theorem left9 (c : Dev nD) (t : Fin cfg0.N) : (dats m 0 c).after 9 t = chunkAct m c t := by dsimp only [dats]

/-- Input window 0's block is in its buffer when point `t` starts. -/
theorem found0 (c : Dev nD) (t : Fin cfg0.N) (d) : (dats m 0 c).before 0 t d = iblk m c 0 t :=
  before0_0_of m (dats m 0 c) (array_eq m c 0) (left0 m c) t d
/-- Input window 1's block is in its buffer when point `t` starts. -/
theorem found1 (c : Dev nD) (t : Fin cfg0.N) (d) : (dats m 0 c).before 1 t d = iblk m c 1 t :=
  before0_1_of m (dats m 0 c) (array_eq m c 1) (left1 m c) t d
/-- Input window 2's block is in its buffer when point `t` starts. -/
theorem found2 (c : Dev nD) (t : Fin cfg0.N) (d) : (dats m 0 c).before 2 t d = iblk m c 2 t :=
  before0_2_of m (dats m 0 c) (array_eq m c 2) (left2 m c) t d
/-- Input window 3's block is in its buffer when point `t` starts. -/
theorem found3 (c : Dev nD) (t : Fin cfg0.N) (d) : (dats m 0 c).before 3 t d = iblk m c 3 t :=
  before0_3_of m (dats m 0 c) (array_eq m c 3) (left3 m c) t d
/-- Input window 4's block is in its buffer when point `t` starts. -/
theorem found4 (c : Dev nD) (t : Fin cfg0.N) (d) : (dats m 0 c).before 4 t d = iblk m c 4 t :=
  before0_4_of m (dats m 0 c) (array_eq m c 4) (left4 m c) t d
/-- Input window 5's block is in its buffer when point `t` starts. -/
theorem found5 (c : Dev nD) (t : Fin cfg0.N) (d) : (dats m 0 c).before 5 t d = iblk m c 5 t :=
  before0_5_of m (dats m 0 c) (array_eq m c 5) (left5 m c) t d

/-! ## The body at one point -/

/-- What the body is called with at point `t`. -/
def pointIn (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def pointOut (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 9600000 in
/-- The body at any point takes what it is called with to what it returns. -/
theorem point_run (c : Dev nD) (t : Fin cfg0.N) :
    pointIn m c t ⊢ wp frame (wpE (defs₀ (F := F)) Variants.none c none) Set.univ (bodyAt0 t) (fun _ => pointOut m c t) := by
  unfold pointIn pointOut bodyAt0
  simp only [found0, found1, found2, found3, found4, found5]
  rw [show (dats m 0 c).owesAt () t.succ = (dats m 0 c).owesAt () t.castSucc from rfl,
    left0, left1, left2, left3, left4, left5, left6, left7, left8, left9]
  rw [show (dats m 0 c).Φ t.succ = kept m c (t.val + 1) from rfl, show (dats m 0 c).Φ t.castSucc = kept m c t.val from rfl]
  unfold kept
  iintro ⟨⟨⟨⟨%s, %hs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ (grid0.coords t) _ _ _ _ _ _ _ _ _ _ _ _ _ _ _ _ _ _ _ _ _ _ _ _ (iblk m c 0 t) (iblk m c 1 t) (iblk m c 2 t) (iblk m c 3 t)
    (iblk m c 4 t) (iblk m c 5 t) s (carried m c t.val)
    (fun h => by rw [(firstChunk_iff t).mp h]; rfl) (fun h => (hs (fun e => h ((firstChunk_iff t).mpr e))).symm) _)
  unfold bodyIn bodyOut
  isplitl [H0 H1 H2 H3 H4 H5 H6 H7 H8 H9 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iexact HS1
  iintro ⟨H0, H1, H2, H3, H4, H5, H6, H7, H8, H9, HS0, HS1⟩
  isplitl [HS0 HS1 Hg]
  · isplitl [HS0 HS1]
    · isplitl [HS0]
      · iexists _; isplitr
        swap; · iexact HS0
        ipureintro; exact fun _ => (carried_succ m c t).symm
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's row of the body table at point `t` is the kernel's body there. -/
theorem row_at (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, row_at]
  exact triple_restated (point_run m c t) rfl .rfl fun _ => .rfl

/-- What the launch hands over is kept before the first point. -/
theorem enter (c : Dev nD) : Pipeline.ΦA spec0 c ⊢ (dats m 0 c).Φ 0 := by
  rw [show (dats m 0 c).Φ 0 = kept m c 0 from rfl, handed_eq]
  unfold kept
  iintro ⟨⟨⟨%s, HS0⟩, HS1⟩, Hg⟩
  isplitl [HS0 HS1]
  · isplitl [HS0]
    · iexists _; isplitr
      swap; · iexact HS0
      ipureintro; exact fun h => absurd rfl h
    iexact HS1
  iexact Hg

/-- What is kept after the last point gives back what the launch handed over. -/
theorem leave (c : Dev nD) : (dats m 0 c).Φ (Fin.last cfg0.N) ⊢ Pipeline.ΦA spec0 c := by
  rw [show (dats m 0 c).Φ (Fin.last cfg0.N) = kept m c (Fin.last cfg0.N).val from rfl, handed_eq]
  unfold kept
  iintro ⟨⟨⟨%s, %hs, HS0⟩, HS1⟩, Hg⟩
  isplitl [HS0 HS1]
  · isplitl [HS0]
    · iexists _; iexact HS0
    iexact HS1
  iexact Hg

/-! ## The run -/

-- the implicit arguments are found by unifying conclusions, which takes unfolding plain definitions in a metavariable's type
set_option backward.isDefEq.respectTransparency.types false in
/-- Every execution of the program ends; then the windows' arrays hold what the points left, every other array is as the
    region found it, and every semaphore is at zero. -/
theorem launch_run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := array_eq m) (hin := enter m) (hout := leave m)

/-- Every execution ends with the arguments unchanged and every semaphore at zero. -/
theorem kernel_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (array_eq m) ((θ_run defs _ _).mono (fun _ h => h.1) (launch_run m ρ)))
    ((θ_run defs _ _).mono (fun _ h => h.2) (launch_run m ρ))

end Cert.Own
end
-- ==== Proof.KernelFinal.lean ====
/-
  What the kernel's arrays hold, index by index. On the way in: each window's block at a point, read off the argument
  arrays (time row `32 t + r` of `x`; the transposed weights and the biases, whole, at every point). On the way out: an
  output array is any `G` that agrees with the block of every point at its place.
-/
module

public import proofs.«01_k».proof.Proof.KernelLaunch
public import Idealize.ShloMosaic.Lib.Pipeline.ValueKit
public import Idealize.ShloMosaic.Lib.StableHlo.RunRead

@[expose] public section

set_option maxRecDepth 16384

noncomputable section

namespace Cert.Own

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## Where the blocks sit -/

/-- Window 0: point `t` has block `t` of time rows. -/
theorem place0 : ∀ t : Fin cfg0.N, win0_0.index t = ![t.val, 0, 0] := (by decide +kernel : ∀ t : Fin grid0.N, _)
/-- Window 1: every point has the one whole block. -/
theorem place1 : ∀ t : Fin cfg0.N, win0_1.index t = ![0, 0] := (by decide +kernel : ∀ t : Fin grid0.N, _)
/-- Window 2: every point has the one whole block. -/
theorem place2 : ∀ t : Fin cfg0.N, win0_2.index t = ![0, 0] := (by decide +kernel : ∀ t : Fin grid0.N, _)
/-- Window 3: every point has the one whole block. -/
theorem place3 : ∀ t : Fin cfg0.N, win0_3.index t = ![0, 0] := (by decide +kernel : ∀ t : Fin grid0.N, _)
/-- Window 4: every point has the one whole block. -/
theorem place4 : ∀ t : Fin cfg0.N, win0_4.index t = ![0, 0] := (by decide +kernel : ∀ t : Fin grid0.N, _)
/-- Window 5: every point has the one whole block. -/
theorem place5 : ∀ t : Fin cfg0.N, win0_5.index t = ![0, 0] := (by decide +kernel : ∀ t : Fin grid0.N, _)
/-- Window 6: point `t` has block `t` of time rows. -/
theorem place6 : ∀ t : Fin cfg0.N, win0_6.index t = ![t.val, 0, 0] := (by decide +kernel : ∀ t : Fin grid0.N, _)
/-- Window 7: point `t` has block `t` of time rows. -/
theorem place7 : ∀ t : Fin cfg0.N, win0_7.index t = ![t.val, 0, 0] := (by decide +kernel : ∀ t : Fin grid0.N, _)
/-- Window 8: point `t` has block `t` of time rows. -/
theorem place8 : ∀ t : Fin cfg0.N, win0_8.index t = ![t.val, 0, 0] := (by decide +kernel : ∀ t : Fin grid0.N, _)
/-- Window 9: point `t` has block `t` of time rows. -/
theorem place9 : ∀ t : Fin cfg0.N, win0_9.index t = ![t.val, 0, 0] := (by decide +kernel : ∀ t : Fin grid0.N, _)

/-! ## The arrays the region finds -/

/-- The transposed input weights. -/
theorem entry_v0 (c : Dev nD) : V m c main_v0 = transpose S128x512 [1, 0] (m ((c : Thread nD τ).loc main_arg1)) transposes_S512x128_S128x512_1_0 := by
  dsimp only [V, hostOps0]; after_reads_simp <;> rfl

/-- The coupling matrix: the two recurrent weights side by side, transposed, in bf16. -/
theorem entry_v3 (c : Dev nD) : V m c main_v3 = truncf .bf16 (transpose S1024x512 [1, 0]
    (concatenate S512x1024 1 [⟨S512x512, m ((c : Thread nD τ).loc main_arg3)⟩, ⟨S512x512, m ((c : Thread nD τ).loc main_arg4)⟩] concatenates_S512x512_S512x512_S512x1024_d1)
    transposes_S512x1024_S1024x512_1_0) bitsLt_bf16_f32 := by
  dsimp only [V, hostOps0]; after_reads_simp <;> rfl

/-- The transposed readout weights. -/
theorem entry_v4 (c : Dev nD) : V m c main_v4 = transpose S512x128 [1, 0] (m ((c : Thread nD τ).loc main_arg5)) transposes_S128x512_S512x128_1_0 := by
  dsimp only [V, hostOps0]; after_reads_simp <;> rfl

/-- The input bias, as one row. -/
theorem entry_v5 (c : Dev nD) : V m c main_v5 = shapeCast S1x512 (m ((c : Thread nD τ).loc main_arg2)) shapeCasts_S512_S1x512 := by
  dsimp only [V, hostOps0]; after_reads_simp <;> rfl

/-- The readout bias, as one row. -/
theorem entry_v6 (c : Dev nD) : V m c main_v6 = shapeCast S1x128 (m ((c : Thread nD τ).loc main_arg6)) shapeCasts_S128_S1x128 := by
  dsimp only [V, hostOps0]; after_reads_simp <;> rfl

/-! ## The blocks on the way in -/

/-- Row `r` of point `t`'s block of `x` is time row `32 t + r`. -/
theorem x_at (c : Dev nD) (t : Fin cfg0.N) (y : S32x64x128.Idx) (i : S1024x64x128.Idx) (h0 : (i 0).val = 32 * t.val + (y 0).val)
    (h1 : (i 1).val = (y 1).val) (h2 : (i 2).val = (y 2).val) :
    (iblk m c 0 t : Vec F S32x64x128 .f32) y = m ((c : Thread nD τ).loc main_arg0) i := by
  blk_simp [iblk]
  refine (congrFun (V_main_arg0 m c) _).trans (congrArg (m ((c : Thread nD τ).loc main_arg0)) ?_)
  blk_ext [place0]

/-- The input weights are whole at every point. -/
theorem wi_whole (c : Dev nD) (t : Fin cfg0.N) : (iblk m c 1 t : Vec F S128x512 .f32) = V m c main_v0 := by
  funext y
  blk_simp [iblk]
  refine congrArg (V m c main_v0) ?_
  blk_ext [place1]

/-- The input bias is whole at every point. -/
theorem bi_whole (c : Dev nD) (t : Fin cfg0.N) : (iblk m c 2 t : Vec F S1x512 .f32) = V m c main_v5 := by
  funext y
  blk_simp [iblk]
  refine congrArg (V m c main_v5) ?_
  blk_ext [place2]

/-- The coupling matrix is whole at every point. -/
theorem w_whole (c : Dev nD) (t : Fin cfg0.N) : (iblk m c 3 t : Vec F S1024x512 .bf16) = V m c main_v3 := by
  funext y
  blk_simp [iblk]
  refine congrArg (V m c main_v3) ?_
  blk_ext [place3]

/-- The readout weights are whole at every point. -/
theorem wo_whole (c : Dev nD) (t : Fin cfg0.N) : (iblk m c 4 t : Vec F S512x128 .f32) = V m c main_v4 := by
  funext y
  blk_simp [iblk]
  refine congrArg (V m c main_v4) ?_
  blk_ext [place4]

/-- The readout bias is whole at every point. -/
theorem bo_whole (c : Dev nD) (t : Fin cfg0.N) : (iblk m c 5 t : Vec F S1x128 .f32) = V m c main_v6 := by
  funext y
  blk_simp [iblk]
  refine congrArg (V m c main_v6) ?_
  blk_ext [place5]

/-! ## The arrays on the way out -/

/-- Result 0's array is any `G` whose time rows `32 t + r` are the rows of point `t`'s block. -/
theorem final_out (c : Dev nD) (G : Vec F S1024x64x128 .f32)
    (h : ∀ (t : Fin cfg0.N) (y : S32x64x128.Idx) (i : S1024x64x128.Idx), (i 0).val = 32 * t.val + (y 0).val → (i 1).val = (y 1).val →
      (i 2).val = (y 2).val → chunkOut m c t y = G i) : (dats m 0 c).arrAt 6 cfg0.N = G := by
  refine (dats m 0 c).arrAt_eq_of_covers 6 _ (by decide +kernel) fun t _ y => ?_
  blk_simp
  rw [left6]
  refine h t y _ ?_ ?_ ?_ <;> (blk_simp [place6] <;> first | done | omega)

/-- Result 1's array is any `G` whose time rows `32 t + r` are the rows of point `t`'s block. -/
theorem final_hy (c : Dev nD) (G : Vec F S1024x64x512 .f32)
    (h : ∀ (t : Fin cfg0.N) (y : S32x64x512.Idx) (i : S1024x64x512.Idx), (i 0).val = 32 * t.val + (y 0).val → (i 1).val = (y 1).val →
      (i 2).val = (y 2).val → chunkHy m c t y = G i) : (dats m 0 c).arrAt 7 cfg0.N = G := by
  refine (dats m 0 c).arrAt_eq_of_covers 7 _ (by decide +kernel) fun t _ y => ?_
  blk_simp
  rw [left7]
  refine h t y _ ?_ ?_ ?_ <;> (blk_simp [place7] <;> first | done | omega)

/-- Result 2's array is any `G` whose time rows `32 t + r` are the rows of point `t`'s block. -/
theorem final_hz (c : Dev nD) (G : Vec F S1024x64x512 .f32)
    (h : ∀ (t : Fin cfg0.N) (y : S32x64x512.Idx) (i : S1024x64x512.Idx), (i 0).val = 32 * t.val + (y 0).val → (i 1).val = (y 1).val →
      (i 2).val = (y 2).val → chunkHz m c t y = G i) : (dats m 0 c).arrAt 8 cfg0.N = G := by
  refine (dats m 0 c).arrAt_eq_of_covers 8 _ (by decide +kernel) fun t _ y => ?_
  blk_simp
  rw [left8]
  refine h t y _ ?_ ?_ ?_ <;> (blk_simp [place8] <;> first | done | omega)

/-- Result 3's array is any `G` whose time rows `32 t + r` are the rows of point `t`'s block. -/
theorem final_act (c : Dev nD) (G : Vec F S1024x64x512 .f32)
    (h : ∀ (t : Fin cfg0.N) (y : S32x64x512.Idx) (i : S1024x64x512.Idx), (i 0).val = 32 * t.val + (y 0).val → (i 1).val = (y 1).val →
      (i 2).val = (y 2).val → chunkAct m c t y = G i) : (dats m 0 c).arrAt 9 cfg0.N = G := by
  refine (dats m 0 c).arrAt_eq_of_covers 9 _ (by decide +kernel) fun t _ y => ?_
  blk_simp
  rw [left9]
  refine h t y _ ?_ ?_ ?_ <;> (blk_simp [place9] <;> first | done | omega)

end Cert.Own
end
-- ==== Proof.StepEq.lean ====
/-
  One time step, over the extended reals: the kernel's step on [hy | hz] is the reference's step on (hy, hz). The kernel
  multiplies the joined state by the coupling matrix whose first 512 rows are the transposed W_R and whose last 512 are
  the transposed W_F; its one sum over 1024 is the reference's two sums over 512.
-/
module

public import proofs.«01_k».proof.Proof.KernelStep
public import proofs.«01_k».proof.Proof.Gen.ReferenceIdeal.Step
public import Idealize.ShloMosaic.Lib.Pointwise

@[expose] public section

set_option maxRecDepth 16384

noncomputable section

namespace Cert.Own

open Idealize.ShloMosaic Idealize.SL.Sem Cert.KernelIdeal Cert.KernelIdeal.Gen
open Cert.ReferenceIdeal.Step (State)

/-- `w` is the coupling matrix of the recurrent weights `R` and `Q`: row `k` is column `k` of `R`, row `512 + k` column `k` of `Q`. -/
structure Couples (w : FVec Ideal S1024x512 .bf16) (R Q : FVec Ideal Cert.ReferenceIdeal.S512x512 .f32) : Prop where
  /-- Row `k` is column `k` of `R`. -/
  low : ∀ (k h : Fin 512), w (ix2 (n0 := 1024) (n1 := 512) ⟨k.val, by omega⟩ h) = R (ix2 h k)
  /-- Row `512 + k` is column `k` of `Q`. -/
  high : ∀ (k h : Fin 512), w (ix2 (n0 := 1024) (n1 := 512) ⟨512 + k.val, by omega⟩ h) = Q (ix2 h k)

/-- The first 512 columns of the joined state are the positions. -/
theorem joined_low (hy hz : FVec Ideal S64x512 .f32) (b : Fin 64) (k : Fin 512) :
    joined (F := Ideal) hy hz (ix2 (n0 := 64) (n1 := 1024) b ⟨k.val, by omega⟩) = hy (ix2 b k) :=
  dif_pos k.isLt

/-- The last 512 columns of the joined state are the velocities. -/
theorem joined_high (hy hz : FVec Ideal S64x512 .f32) (b : Fin 64) (k : Fin 512) :
    joined (F := Ideal) hy hz (ix2 (n0 := 64) (n1 := 1024) b ⟨512 + k.val, by omega⟩) = hz (ix2 b k) := by
  have n : ¬ 512 + k.val < 512 := by omega
  refine (dif_neg n).trans (congrArg hz (funext fun a => Fin.ext ?_))
  match a with
  | 0 => rfl
  | 1 => show 512 + k.val - 512 = k.val; omega

section
variable {w : FVec Ideal S1024x512 .bf16} {e : FVec Ideal S1x64x512 .f32} {s : State Ideal} {j : ℕ}
  (hw : Couples w s.main_v8_1 s.main_v8_2) (he : ∀ (b : Fin 64) (h : Fin 512), e (ix3 0 b h) = Cert.ReferenceIdeal.Step.b3 j s (ix2 b h))
include hw he

/-- The activations of a step. -/
theorem act_step (b : Fin 64) (h : Fin 512) :
    k0_pay1 (joined s.main_v8_4 s.main_v8_5) w e (ix2 b h) = Cert.ReferenceIdeal.Step.b10 j s (ix2 b h) := by
  pointwise [k0_pay1, Cert.ReferenceIdeal.Step.b10, Cert.ReferenceIdeal.Step.b9, Cert.ReferenceIdeal.Step.b8, Cert.ReferenceIdeal.Step.b7, Cert.ReferenceIdeal.Step.b6, Cert.ReferenceIdeal.Step.b5, Cert.ReferenceIdeal.Step.b4]
  rw [he b h]
  refine congrArg Ideal.tanh (congrArg (fun z : EReal => z + Cert.ReferenceIdeal.Step.b3 j s (ix2 b h)) ?_)
  refine (Fin.sum_univ_two_halves 512 512 rfl _).trans (congrArg₂ (fun y z : EReal => y + z) ?_ ?_)
  · exact Finset.sum_congr rfl fun k _ => congrArg₂ (fun y z : EReal => y * z) (joined_low s.main_v8_4 s.main_v8_5 b k) (hw.low k h)
  · exact Finset.sum_congr rfl fun k _ => congrArg₂ (fun y z : EReal => y * z) (joined_high s.main_v8_4 s.main_v8_5 b k) (hw.high k h)

/-- The velocities after a step. -/
theorem hz_step (b : Fin 64) (h : Fin 512) :
    k0_pay3 (joined s.main_v8_4 s.main_v8_5) w e (ix2 b h) = Cert.ReferenceIdeal.Step.b22 j s (ix2 b h) := by
  have ea := act_step hw he b h
  have ey := joined_low s.main_v8_4 s.main_v8_5 b h
  have ez := joined_high s.main_v8_4 s.main_v8_5 b h
  pointwise [k0_pay3, k0_pay2, Cert.ReferenceIdeal.Step.b22, Cert.ReferenceIdeal.Step.b21, Cert.ReferenceIdeal.Step.b20, Cert.ReferenceIdeal.Step.b19, Cert.ReferenceIdeal.Step.b18, Cert.ReferenceIdeal.Step.b17, Cert.ReferenceIdeal.Step.b16, Cert.ReferenceIdeal.Step.b15, Cert.ReferenceIdeal.Step.b14, Cert.ReferenceIdeal.Step.b13, Cert.ReferenceIdeal.Step.b12, Cert.ReferenceIdeal.Step.b11]
  rw [ea, ey, ez]

/-- The positions after a step. -/
theorem hy_step (b : Fin 64) (h : Fin 512) :
    k0_pay4 (joined s.main_v8_4 s.main_v8_5) w e (ix2 b h) = Cert.ReferenceIdeal.Step.b26 j s (ix2 b h) := by
  have ea := hz_step hw he b h
  have ey := joined_low s.main_v8_4 s.main_v8_5 b h
  pointwise [k0_pay4, k0_pay2, Cert.ReferenceIdeal.Step.b26, Cert.ReferenceIdeal.Step.b25, Cert.ReferenceIdeal.Step.b24, Cert.ReferenceIdeal.Step.b23]
  rw [ea, ey]

/-- The kernel's next state is the reference's, joined. -/
theorem next_step : next w e (joined s.main_v8_4 s.main_v8_5)
    = joined (Cert.ReferenceIdeal.Step.step j s).main_v8_4 (Cert.ReferenceIdeal.Step.step j s).main_v8_5 := by
  rw [Cert.ReferenceIdeal.Step.step_main_v8_4, Cert.ReferenceIdeal.Step.step_main_v8_5]
  refine congrArg₂ joined (funext fun y => ?_) (funext fun y => ?_)
  · obtain ⟨b, h, rfl⟩ : ∃ (b : Fin 64) (h : Fin 512), y = ix2 b h := ⟨y 0, y 1, by idx_ext⟩
    exact hy_step hw he b h
  · obtain ⟨b, h, rfl⟩ : ∃ (b : Fin 64) (h : Fin 512), y = ix2 b h := ⟨y 0, y 1, by idx_ext⟩
    exact hz_step hw he b h

end
end Cert.Own
end
-- ==== Proof.InputsEq.lean ====
/-
  The two projections and the weights, over the extended reals, entry by entry: the chunk's external input is the
  reference's at the chunk's time rows, the readout of a chunk is the reference's there, and the coupling matrix is the
  transposed recurrent weights one above the other.
-/
module

public import proofs.«01_k».proof.Proof.KernelFinal
public import proofs.«01_k».proof.Proof.StepEq

@[expose] public section

set_option maxRecDepth 16384

noncomputable section

namespace Cert.Own

open Idealize.ShloMosaic Idealize.ShloMosaic.TcCoe Idealize.SL.Sem Cert.KernelIdeal Cert.KernelIdeal.Gen

/-- The external input of a chunk, at an entry: row `(r, b)` of the chunk is row `64 r + b` of the flattened product. -/
theorem project_in (x : FVec Ideal S32x64x128 .f32) (wi : FVec Ideal S128x512 .f32) (bi : FVec Ideal S1x512 .f32)
    (r : Fin 32) (b : Fin 64) (h : Fin 512) :
    k0_pay9 x wi bi (ix3 r b h) = (∑ k : Fin 128, x (ix3 r b k) * wi (ix2 k h)) + bi (ix2 0 h) := by
  pointwise [k0_pay9]

/-- The readout of a chunk of positions, at an entry. -/
theorem project_out (y : FVec Ideal S32x64x512 .f32) (wo : FVec Ideal S512x128 .f32) (bo : FVec Ideal S1x128 .f32)
    (r : Fin 32) (b : Fin 64) (o : Fin 128) :
    k0_pay12 y wo bo (ix3 r b o) = (∑ k : Fin 512, y (ix3 r b k) * wo (ix2 k o)) + bo (ix2 0 o) := by
  pointwise [k0_pay12]

/-- The reference's external input, at an entry. -/
theorem ref_in (x : FVec Ideal S1024x64x128 .f32) (wi : FVec Ideal S512x128 .f32) (bi : FVec Ideal S512 .f32)
    (t : Fin 1024) (b : Fin 64) (h : Fin 512) :
    Cert.ReferenceIdeal.Step.A_main_v3 (F := Ideal) x wi bi (ix3 t b h) = (∑ k : Fin 128, x (ix3 t b k) * wi (ix2 h k)) + bi (ix1 h) := by
  pointwise [Cert.ReferenceIdeal.Step.A_main_v3, Cert.ReferenceIdeal.Step.A_main_v2, Cert.ReferenceIdeal.Step.A_main_v1, Cert.ReferenceIdeal.Step.A_main_v0]

/-- The reference's readout, at an entry. -/
theorem ref_out (s : Cert.ReferenceIdeal.Step.State Ideal) (wo : FVec Ideal S128x512 .f32) (bo : FVec Ideal S128 .f32)
    (t : Fin 1024) (b : Fin 64) (o : Fin 128) :
    Cert.ReferenceIdeal.Step.R_main_v12 s wo bo (ix3 t b o) = (∑ k : Fin 512, s.main_v8_6 (ix3 t b k) * wo (ix2 o k)) + bo (ix1 o) := by
  pointwise [Cert.ReferenceIdeal.Step.R_main_v12]

variable (m : (ℓ : Loc nD τ sig) → Buf (Elt Ideal) ℓ) (c : Dev nD) (t : Fin cfg0.N)

/-- The coupling block couples the two recurrent weights. -/
theorem coupling_couples : Couples (coupling m c t) (m ((c : Thread nD τ).loc main_arg3)) (m ((c : Thread nD τ).loc main_arg4)) := by
  unfold coupling
  rw [w_whole, entry_v3]
  constructor
  · intro k h
    pointwise
  · intro k h
    pointwise

/-- The external input of point `t`'s chunk is the reference's at time rows `32 t + r`. -/
theorem external_at (r : Fin 32) (b : Fin 64) (h : Fin 512) (n : Fin 1024) (hn : n.val = 32 * t.val + r.val) :
    external m c t (ix3 r b h) = Cert.ReferenceIdeal.Step.A_main_v3 (m ((c : Thread nD τ).loc main_arg0)) (m ((c : Thread nD τ).loc main_arg1))
      (m ((c : Thread nD τ).loc main_arg2)) (ix3 n b h) := by
  unfold external
  refine (project_in _ _ _ r b h).trans (Eq.trans ?_ (ref_in _ _ _ n b h).symm)
  rw [wi_whole, bi_whole, entry_v0, entry_v5]
  refine congrArg₂ (fun y z : EReal => y + z) (Finset.sum_congr rfl fun k _ => congrArg₂ (fun y z : EReal => y * z) ?_ ?_) ?_
  · exact x_at m c t _ _ hn rfl rfl
  · pointwise
  · pointwise

/-- The readout of point `t`'s chunk, of positions that are a state's saved positions at time rows `32 t + r`, is the reference's there. -/
theorem readout_at (y : FVec Ideal S32x64x512 .f32) (s : Cert.ReferenceIdeal.Step.State Ideal) (r : Fin 32) (b : Fin 64) (o : Fin 128) (n : Fin 1024)
    (hy : ∀ k : Fin 512, y (ix3 r b k) = s.main_v8_6 (ix3 n b k)) :
    k0_pay12 y (iblk m c 4 t) (iblk m c 5 t) (ix3 r b o) = Cert.ReferenceIdeal.Step.R_main_v12 s (m ((c : Thread nD τ).loc main_arg5))
      (m ((c : Thread nD τ).loc main_arg6)) (ix3 n b o) := by
  refine (project_out _ _ _ r b o).trans (Eq.trans ?_ (ref_out s _ _ n b o).symm)
  rw [wo_whole, bo_whole, entry_v4, entry_v6]
  refine congrArg₂ (fun y z : EReal => y + z) (Finset.sum_congr rfl fun k _ => congrArg₂ (fun y z : EReal => y * z) (hy k) ?_) ?_
  · pointwise
  · pointwise

end Cert.Own
-- ==== Proof.RefSaved.lean ====
/-
  What the reference's arrays hold at an index. Trip `j` reads row `j` of the external input and writes row `j` of each
  of the three saved arrays; so after `N` trips row `t < N` of a saved array is what trip `t` wrote. This is for any
  sequence of states in which each is the step of the one before.
-/
module

public import proofs.«01_k».proof.Proof.Gen.ReferenceIdeal.Step
public import Idealize.ShloMosaic.Lib.Pointwise
public import Idealize.ShloMosaic.Lib.DynamicIndex
public import Idealize.ShloMosaic.Lib.WordCmp

@[expose] public section

set_option maxRecDepth 16384

noncomputable section

namespace Cert.Own.Ref

open Idealize.ShloMosaic Idealize.SL.Sem
open Cert.ReferenceIdeal Cert.ReferenceIdeal.Gen Cert.ReferenceIdeal.Step

variable {F : FTy → Type} [FloatOps F]

/-- A trip's number read back from its 32-bit word. -/
theorem trip_toInt {j : ℕ} (hj : j < 1024) : (BitVec.ofNat 32 j).toInt = (j : ℤ) := by
  rw [BitVec.toInt_eq_toNat_of_lt] <;> rw [BitVec.toNat_ofNat] <;> omega

/-- The start `(j, 0, 0)` as words, read as integers. -/
theorem start_eq {j : ℕ} (hj : j < 1024) (a : Fin 3) :
    ((![(constantI S_ 32 (BitVec.ofNat 32 j) : (⟨S_, .i32⟩ : BufTy).Contents (Elt F)), constantI S_ 32 0#32, constantI S_ 32 0#32]
      : Fin 3 → (⟨S_, .i32⟩ : BufTy).Contents (Elt F)) a (Shape.Idx.first h_S_)).toInt = ((![j, 0, 0] : Fin 3 → ℕ) a : ℤ) := by
  match a with
  | 0 => exact trip_toInt hj
  | 1 => rfl
  | 2 => rfl

/-- One row of sixty-four by 512 fits at row `j`. -/
theorem row_fits {j : ℕ} (hj : j < 1024) : S1024x64x512.Slices ![j, 0, 0] S1x64x512 :=
  ⟨rfl, fun a => by
    match a with
    | 0 => show j + 1 ≤ 1024; omega
    | 1 => exact le_refl _
    | 2 => exact le_refl _⟩

/-- Trip `j` reads row `j` of the external input. -/
theorem input_row {j : ℕ} (hj : j < 1024) (s : State F) (b : Fin 64) (h : Fin 512) :
    b3 j s (ix2 b h) = s.main_v8_0 (ix3 ⟨j, hj⟩ b h) := by
  have e : b2 j s = extractStridedSlice S1x64x512 ![j, 0, 0] s.main_v8_0 (row_fits hj) :=
    Host.dynamicSlice_eq_extractStridedSlice _ _ _ _ _ _ (start_eq (F := F) hj)
  unfold b3
  rw [e]
  pointwise

/-- A block written over row `j`, read at row `t`: the block's entry where `t = j`, the old entry elsewhere. -/
theorem written_row {j : ℕ} (hj : j < 1024) (X : (⟨S1024x64x512, .f32⟩ : BufTy).Contents (Elt F))
    (v : (⟨S64x512, .f32⟩ : BufTy).Contents (Elt F)) (t : Fin 1024) (b : Fin 64) (h : Fin 512) :
    Host.dynamicUpdateSlice X (broadcastInDim S1x64x512 ![1, 2] bcast_S64x512_S1x64x512_1_2 v)
      (fun k => (((![(constantI S_ 32 (BitVec.ofNat 32 j) : (⟨S_, .i32⟩ : BufTy).Contents (Elt F)), constantI S_ 32 0#32, constantI S_ 32 0#32] : Fin 3 → (⟨S_, .i32⟩ : BufTy).Contents (Elt F))) k (Shape.Idx.first h_S_)).toInt)
      updateFits_S1024x64x512_S1x64x512 (ix3 t b h)
    = if t.val = j then v (ix2 b h) else X (ix3 t b h) := by
  rw [WordCmp.dynamicUpdateSlice_eq_update _ _ _ _ ![j, 0, 0] (row_fits hj) (start_eq (F := F) hj)]
  pointwise
  by_cases e : t.val = j
  · rw [if_pos e, dif_pos (by omega)]
  · rw [if_neg e, dif_neg (by omega)]

/-- A sequence of arrays in which trip `j` writes row `j` holds, after `N` trips, what trip `t < N` wrote as its row `t`. -/
theorem rows_written (A : ℕ → (⟨S1024x64x512, .f32⟩ : BufTy).Contents (Elt F)) (v : ℕ → (⟨S64x512, .f32⟩ : BufTy).Contents (Elt F))
    (hA : ∀ j, j < 1024 → ∀ (t : Fin 1024) (b : Fin 64) (h : Fin 512), A (j + 1) (ix3 t b h) = if t.val = j then v j (ix2 b h) else A j (ix3 t b h)) :
    ∀ N, N ≤ 1024 → ∀ (t : Fin 1024) (b : Fin 64) (h : Fin 512), t.val < N → A N (ix3 t b h) = v t.val (ix2 b h)
  | 0, _, t, b, h, ht => absurd ht (Nat.not_lt_zero _)
  | N + 1, hN, t, b, h, ht => by
    refine (hA N (by omega) t b h).trans ?_
    by_cases e : t.val = N
    · rw [if_pos e, e]
    · rw [if_neg e]; exact rows_written A v hA N (by omega) t b h (by omega)

section
variable {S : ℕ → State F} (hS : ∀ n, S (n + 1) = step n (S n))
include hS

/-- Row `t` of the saved positions is the positions trip `t` computes. -/
theorem saved_hy (N : ℕ) (hN : N ≤ 1024) (t : Fin 1024) (b : Fin 64) (h : Fin 512) (ht : t.val < N) :
    (S N).main_v8_6 (ix3 t b h) = b26 t.val (S t.val) (ix2 b h) :=
  rows_written (fun n => (S n).main_v8_6) (fun n => b26 n (S n)) (fun j hj t b h =>
    (congrFun ((congrArg State.main_v8_6 (hS j)).trans (step_main_v8_6 j (S j))) _).trans (written_row hj _ _ t b h)) N hN t b h ht

/-- Row `t` of the saved velocities is the velocities trip `t` computes. -/
theorem saved_hz (N : ℕ) (hN : N ≤ 1024) (t : Fin 1024) (b : Fin 64) (h : Fin 512) (ht : t.val < N) :
    (S N).main_v8_7 (ix3 t b h) = b22 t.val (S t.val) (ix2 b h) :=
  rows_written (fun n => (S n).main_v8_7) (fun n => b22 n (S n)) (fun j hj t b h =>
    (congrFun ((congrArg State.main_v8_7 (hS j)).trans (step_main_v8_7 j (S j))) _).trans (written_row hj _ _ t b h)) N hN t b h ht

/-- Row `t` of the saved activations is the activations trip `t` computes. -/
theorem saved_act (N : ℕ) (hN : N ≤ 1024) (t : Fin 1024) (b : Fin 64) (h : Fin 512) (ht : t.val < N) :
    (S N).main_v8_8 (ix3 t b h) = b10 t.val (S t.val) (ix2 b h) :=
  rows_written (fun n => (S n).main_v8_8) (fun n => b10 n (S n)) (fun j hj t b h =>
    (congrFun ((congrArg State.main_v8_8 (hS j)).trans (step_main_v8_8 j (S j))) _).trans (written_row hj _ _ t b h)) N hN t b h ht

/-- No trip changes the external input or the two recurrent weights. -/
theorem loop_constants : ∀ n, (S n).main_v8_0 = (S 0).main_v8_0 ∧ (S n).main_v8_1 = (S 0).main_v8_1 ∧ (S n).main_v8_2 = (S 0).main_v8_2
  | 0 => ⟨rfl, rfl, rfl⟩
  | n + 1 => by rw [hS n]; exact loop_constants n

end

end Cert.Own.Ref
-- ==== Proof.TimeEq.lean ====
/-
  The recurrence, over the extended reals: over all 1024 time steps the kernel's state is the reference's. `S` is the
  reference's sequence of states from the kernel's arguments; point `t` of the kernel's grid does its steps `32 t` to
  `32 t + 31`. From the equal states, the chunk of each result at point `t` is the reference's saved array there.
-/
module

public import proofs.«01_k».proof.Proof.InputsEq
public import proofs.«01_k».proof.Proof.RefSaved

@[expose] public section

set_option maxRecDepth 16384

noncomputable section

namespace Cert.Own

open Idealize.ShloMosaic Idealize.ShloMosaic.TcCoe Idealize.SL.Sem Cert.KernelIdeal Cert.KernelIdeal.Gen
open Cert.ReferenceIdeal.Step (State)

/-- The grid has thirty-two points. -/
theorem points_eq : cfg0.N = 32 := by decide +kernel

/-- The row the saved positions take from a step. -/
theorem hyRow_at (w : FVec Ideal S1024x512 .bf16) (X : FVec Ideal S32x64x512 .f32) (s : FVec Ideal S64x1024 .f32) (r : ℕ) (b : Fin 64) (h : Fin 512) :
    hyRow (F := Ideal) w X s r (ix3 0 b h) = k0_pay4 (F := Ideal) (stateAt (F := Ideal) w X s r) w (row (F := Ideal) X r) (ix2 b h) := by
  pointwise [hyRow, k0_pay6]

/-- The row the saved velocities take from a step. -/
theorem hzRow_at (w : FVec Ideal S1024x512 .bf16) (X : FVec Ideal S32x64x512 .f32) (s : FVec Ideal S64x1024 .f32) (r : ℕ) (b : Fin 64) (h : Fin 512) :
    hzRow (F := Ideal) w X s r (ix3 0 b h) = k0_pay3 (F := Ideal) (stateAt (F := Ideal) w X s r) w (row (F := Ideal) X r) (ix2 b h) := by
  pointwise [hzRow, k0_pay7]

/-- The row the saved activations take from a step. -/
theorem actRow_at (w : FVec Ideal S1024x512 .bf16) (X : FVec Ideal S32x64x512 .f32) (s : FVec Ideal S64x1024 .f32) (r : ℕ) (b : Fin 64) (h : Fin 512) :
    actRow (F := Ideal) w X s r (ix3 0 b h) = k0_pay1 (F := Ideal) (stateAt (F := Ideal) w X s r) w (row (F := Ideal) X r) (ix2 b h) := by
  pointwise [actRow, k0_pay5]

/-- Equal places of a chunk and of an array, coordinate by coordinate, as the same batch and column. -/
theorem same_place {a : ℕ} (y : (⟨3, ![32, 64, a]⟩ : Shape).Idx) (i : (⟨3, ![1024, 64, a]⟩ : Shape).Idx) (h1 : (i 1).val = (y 1).val) (h2 : (i 2).val = (y 2).val) :
    y = ix3 (n0 := 32) (n1 := 64) (n2 := a) (y 0) (y 1) (y 2) ∧ i = ix3 (n0 := 1024) (n1 := 64) (n2 := a) (i 0) (y 1) (y 2) := by
  refine ⟨by idx_ext, ?_⟩
  funext k
  match k with
  | 0 => rfl
  | 1 => exact Fin.ext h1
  | 2 => exact Fin.ext h2

variable (m : (ℓ : Loc nD τ sig) → Buf (Elt Ideal) ℓ) (c : Dev nD)

/-- `S` is the reference's sequence of states from the arguments in `m`. -/
structure RunsFrom (S : ℕ → State Ideal) : Prop where
  zero : S 0 = Cert.ReferenceIdeal.Step.init (m ((c : Thread nD τ).loc main_arg3)) (m ((c : Thread nD τ).loc main_arg4))
    (m ((c : Thread nD τ).loc main_arg0)) (m ((c : Thread nD τ).loc main_arg1)) (m ((c : Thread nD τ).loc main_arg2))
  succ : ∀ n, S (n + 1) = Cert.ReferenceIdeal.Step.step n (S n)

/-- Both start at zero. -/
theorem zero_state {S : ℕ → State Ideal} (hS : RunsFrom m c S) : carried m c 0 = joined (S 0).main_v8_4 (S 0).main_v8_5 := by
  rw [hS.zero]
  funext y
  obtain ⟨b, k, rfl⟩ : ∃ (b : Fin 64) (k : Fin 1024), y = ix2 b k := ⟨y 0, y 1, by idx_ext⟩
  unfold joined Cert.ReferenceIdeal.Step.init
  dsimp only
  have e : ∀ h : Fin 512, Cert.ReferenceIdeal.Step.K_main_v4 (F := Ideal) (ix2 b h) = Ideal.ofBits .f32 0x00000000#32 := fun h => by
    pointwise [Cert.ReferenceIdeal.Step.K_main_v4, Cert.ReferenceIdeal.Step.K_main_cst]
  have e' : carried m c 0 (ix2 b k) = Ideal.ofBits .f32 0x00000000#32 := by
    unfold carried
    pointwise [k0_pay8]
  rw [e']
  split
  · exact (e _).symm
  · exact (e _).symm

section
variable {S : ℕ → State Ideal} (hS : RunsFrom m c S) (t : Fin cfg0.N)
include hS

/-- The coupling matrix couples the weights of every state. -/
theorem couples_at (n : ℕ) : Couples (coupling m c t) (S n).main_v8_1 (S n).main_v8_2 := by
  obtain ⟨_, e1, e2⟩ := Ref.loop_constants hS.succ n
  rw [e1, e2, hS.zero]
  exact coupling_couples m c t

/-- Step `r` of point `t` adds the external input that trip `32 t + r` adds. -/
theorem input_at (r : ℕ) (hr : r < 32) (b : Fin 64) (h : Fin 512) :
    row (external m c t) r (ix3 0 b h) = Cert.ReferenceIdeal.Step.b3 (32 * t.val + r) (S (32 * t.val + r)) (ix2 b h) := by
  have ht : t.val < 32 := points_eq ▸ t.isLt
  have hn : 32 * t.val + r < 1024 := by omega
  refine Eq.trans ?_ (Ref.input_row hn _ b h).symm
  rw [(Ref.loop_constants hS.succ _).1, hS.zero]
  exact external_at m c t ⟨r % 32, Nat.mod_lt _ (by decide)⟩ b h ⟨32 * t.val + r, hn⟩ (by show 32 * t.val + r = 32 * t.val + r % 32; omega)

/-- Within a chunk that starts at the reference's state, the kernel's state is the reference's. -/
theorem chunk_state (h0 : carried m c t.val = joined (S (32 * t.val)).main_v8_4 (S (32 * t.val)).main_v8_5) :
    ∀ r, r ≤ 32 → stateAt (coupling m c t) (external m c t) (carried m c t.val) r
      = joined (S (32 * t.val + r)).main_v8_4 (S (32 * t.val + r)).main_v8_5
  | 0, _ => h0
  | r + 1, hr => by
    rw [stateAt_succ, chunk_state h0 r (by omega), next_step (couples_at m c hS t _) (input_at m c hS t r (by omega))]
    rw [← hS.succ (32 * t.val + r)]
    rfl

end

section
variable {S : ℕ → State Ideal} (hS : RunsFrom m c S)
include hS

/-- The state the kernel carries into point `n` is the reference's after `32 n` trips. -/
theorem carried_eq : ∀ n, n ≤ 32 → carried m c n = joined (S (32 * n)).main_v8_4 (S (32 * n)).main_v8_5
  | 0, _ => zero_state m c hS
  | n + 1, hn => by
    have hN : n < cfg0.N := by rw [points_eq]; omega
    exact (carried_succ m c ⟨n, hN⟩).trans (chunk_state m c hS ⟨n, hN⟩ (carried_eq n (by omega)) 32 (le_refl _))

variable (t : Fin cfg0.N)

/-- Before step `r` of point `t` the kernel's state is the reference's before trip `32 t + r`. -/
theorem state_eq (r : ℕ) (hr : r ≤ 32) : stateAt (coupling m c t) (external m c t) (carried m c t.val) r
    = joined (S (32 * t.val + r)).main_v8_4 (S (32 * t.val + r)).main_v8_5 :=
  chunk_state m c hS t (carried_eq m c hS t.val (Nat.le_of_lt (points_eq ▸ t.isLt))) r hr

/-- Point `t`'s chunk of positions is the reference's saved positions at its time rows. -/
theorem chunkHy_at (r : Fin 32) (b : Fin 64) (h : Fin 512) (n : Fin 1024) (hn : n.val = 32 * t.val + r.val) :
    chunkHy m c t (ix3 r b h) = (S 1024).main_v8_6 (ix3 n b h) := by
  refine Eq.trans ?_ (Ref.saved_hy hS.succ 1024 (le_refl _) n b h n.isLt).symm
  refine (hyRow_at _ _ _ r.val b h).trans ?_
  rw [state_eq m c hS t r.val (by omega), hn]
  exact hy_step (couples_at m c hS t _) (input_at m c hS t r.val r.isLt) b h

/-- Point `t`'s chunk of velocities is the reference's saved velocities at its time rows. -/
theorem chunkHz_at (r : Fin 32) (b : Fin 64) (h : Fin 512) (n : Fin 1024) (hn : n.val = 32 * t.val + r.val) :
    chunkHz m c t (ix3 r b h) = (S 1024).main_v8_7 (ix3 n b h) := by
  refine Eq.trans ?_ (Ref.saved_hz hS.succ 1024 (le_refl _) n b h n.isLt).symm
  refine (hzRow_at _ _ _ r.val b h).trans ?_
  rw [state_eq m c hS t r.val (by omega), hn]
  exact hz_step (couples_at m c hS t _) (input_at m c hS t r.val r.isLt) b h

/-- Point `t`'s chunk of activations is the reference's saved activations at its time rows. -/
theorem chunkAct_at (r : Fin 32) (b : Fin 64) (h : Fin 512) (n : Fin 1024) (hn : n.val = 32 * t.val + r.val) :
    chunkAct m c t (ix3 r b h) = (S 1024).main_v8_8 (ix3 n b h) := by
  refine Eq.trans ?_ (Ref.saved_act hS.succ 1024 (le_refl _) n b h n.isLt).symm
  refine (actRow_at _ _ _ r.val b h).trans ?_
  rw [state_eq m c hS t r.val (by omega), hn]
  exact act_step (couples_at m c hS t _) (input_at m c hS t r.val r.isLt) b h

/-- Point `t`'s chunk of readouts is the reference's readout at its time rows. -/
theorem chunkOut_at (r : Fin 32) (b : Fin 64) (o : Fin 128) (n : Fin 1024) (hn : n.val = 32 * t.val + r.val) :
    chunkOut m c t (ix3 r b o) = Cert.ReferenceIdeal.Step.R_main_v12 (S 1024) (m ((c : Thread nD τ).loc main_arg5)) (m ((c : Thread nD τ).loc main_arg6)) (ix3 n b o) :=
  readout_at m c t _ (S 1024) r b o n fun k => chunkHy_at m c hS t r b k n hn

/-! ## The four result arrays -/

/-- Result 2 is the reference's. -/
theorem array_hy : (dats m 0 c).arrAt 7 cfg0.N = (S 1024).main_v8_6 :=
  final_hy m c _ fun t y i h0 h1 h2 => by
    obtain ⟨ey, ei⟩ := same_place y i h1 h2
    rw [ey, ei]
    exact chunkHy_at m c hS t (y 0) (y 1) (y 2) (i 0) h0

/-- Result 3 is the reference's. -/
theorem array_hz : (dats m 0 c).arrAt 8 cfg0.N = (S 1024).main_v8_7 :=
  final_hz m c _ fun t y i h0 h1 h2 => by
    obtain ⟨ey, ei⟩ := same_place y i h1 h2
    rw [ey, ei]
    exact chunkHz_at m c hS t (y 0) (y 1) (y 2) (i 0) h0

/-- Result 4 is the reference's. -/
theorem array_act : (dats m 0 c).arrAt 9 cfg0.N = (S 1024).main_v8_8 :=
  final_act m c _ fun t y i h0 h1 h2 => by
    obtain ⟨ey, ei⟩ := same_place y i h1 h2
    rw [ey, ei]
    exact chunkAct_at m c hS t (y 0) (y 1) (y 2) (i 0) h0

/-- Result 1 is the reference's. -/
theorem array_out : (dats m 0 c).arrAt 6 cfg0.N
    = Cert.ReferenceIdeal.Step.R_main_v12 (S 1024) (m ((c : Thread nD τ).loc main_arg5)) (m ((c : Thread nD τ).loc main_arg6)) :=
  final_out m c _ fun t y i h0 h1 h2 => by
    obtain ⟨ey, ei⟩ := same_place y i h1 h2
    rw [ey, ei]
    exact chunkOut_at m c hS t (y 0) (y 1) (y 2) (i 0) h0

end

end Cert.Own
-- ==== Proof.RefRun.lean ====
/-
  The reference's run over one trip written as a function of a state. The reference is one counted loop of 1024 trips;
  `stateOf` reads the state a trip starts from off the buffers, `trip_state` says a trip takes it to `Step.step`, and
  `refState` is the sequence of states. The run's four results are read at the last state.
-/
module

public import proofs.«01_k».proof.Proof.Gen.ReferenceIdeal.Run
public import proofs.«01_k».proof.Proof.Gen.ReferenceIdeal.Step
public import Idealize.ShloMosaic.Lib.Quiescent

@[expose] public section

set_option maxRecDepth 65536

noncomputable section

namespace Cert.Own.Ref

open Idealize.ShloMosaic Idealize.ShloMosaic.TcCoe Idealize.SL.Sem Idealize.ShloMosaic.StableHlo
open Cert.ReferenceIdeal Cert.ReferenceIdeal.Gen Cert.ReferenceIdeal.Step Cert.ReferenceIdeal.Value

variable {F : FTy → Type} [FloatOps F]

/-- The state a trip starts from, read off the loop's buffers. -/
def stateOf (X : Valuation τ sig (Elt F)) : State F where
  main_v8_4 := X (Proc.devRef .tc main_v8_4)
  main_v8_5 := X (Proc.devRef .tc main_v8_5)
  main_v8_6 := X (Proc.devRef .tc main_v8_6)
  main_v8_7 := X (Proc.devRef .tc main_v8_7)
  main_v8_8 := X (Proc.devRef .tc main_v8_8)
  main_v8_0 := X (Proc.devRef .tc main_v8_0)
  main_v8_1 := X (Proc.devRef .tc main_v8_1)
  main_v8_2 := X (Proc.devRef .tc main_v8_2)

/-- The loop's counter buffer holds `j`. -/
def AtTrip (X : Valuation τ sig (Elt F)) (j : ℕ) : Prop :=
  X (Proc.devRef .tc main_v8_3) = (constantI S_ 32 (BitVec.ofNat 32 j) : (⟨S_, .i32⟩ : BufTy).Contents (Elt F))

/-- A trip raises the counter by one. -/
theorem AtTrip.next {X : Valuation τ sig (Elt F)} {j : ℕ} (h : AtTrip X j) : AtTrip (STEP X) (j + 1) := by
  unfold AtTrip at h ⊢
  refine (STEP_main_v8_3 X).trans ?_
  unfold step_main_v8_3
  refine (congrArg (fun u => addi u (constantI S_ 32 1#32)) h).trans (funext fun y => ?_)
  show BitVec.ofNat 32 j + 1#32 = BitVec.ofNat 32 (j + 1)
  simp only [BitVec.ofNat_add]

/-- The activations a trip computes. -/
theorem act_trip {X : Valuation τ sig (Elt F)} {j : ℕ} (h : AtTrip X j) : res_main_while0b_v20 X = b10 j (stateOf X) := by
  unfold AtTrip at h
  unfold res_main_while0b_v20
  rw [h]
  rfl

/-- The velocities a trip computes. -/
theorem hz_trip {X : Valuation τ sig (Elt F)} {j : ℕ} (h : AtTrip X j) : res_main_while0b_v29 X = b22 j (stateOf X) := by
  unfold res_main_while0b_v29
  rw [act_trip h]
  rfl

/-- The positions a trip computes. -/
theorem hy_trip {X : Valuation τ sig (Elt F)} {j : ℕ} (h : AtTrip X j) : res_main_while0b_v32 X = b26 j (stateOf X) := by
  unfold res_main_while0b_v32
  rw [hz_trip h]
  rfl

/-- The saved positions after a trip. -/
theorem saved6_trip {X : Valuation τ sig (Elt F)} {j : ℕ} (h : AtTrip X j) : Value.step_main_v8_6 X = b30 j (stateOf X) := by
  have e := hy_trip h
  unfold AtTrip at h
  unfold Value.step_main_v8_6
  rw [e, h]
  rfl

/-- The saved velocities after a trip. -/
theorem saved7_trip {X : Valuation τ sig (Elt F)} {j : ℕ} (h : AtTrip X j) : Value.step_main_v8_7 X = b34 j (stateOf X) := by
  have e := hz_trip h
  unfold AtTrip at h
  unfold Value.step_main_v8_7
  rw [e, h]
  rfl

/-- The saved activations after a trip. -/
theorem saved8_trip {X : Valuation τ sig (Elt F)} {j : ℕ} (h : AtTrip X j) : Value.step_main_v8_8 X = b38 j (stateOf X) := by
  have e := act_trip h
  unfold AtTrip at h
  unfold Value.step_main_v8_8
  rw [e, h]
  rfl

/-- One trip of the loop takes the state it starts from to `step` of it. -/
theorem trip_state {X : Valuation τ sig (Elt F)} {j : ℕ} (h : AtTrip X j) : stateOf (STEP X) = step j (stateOf X) := by
  have e4 := (STEP_main_v8_4 X).trans (hy_trip h)
  have e5 := (STEP_main_v8_5 X).trans (hz_trip h)
  have e6 := (STEP_main_v8_6 X).trans (saved6_trip h)
  have e7 := (STEP_main_v8_7 X).trans (saved7_trip h)
  have e8 := (STEP_main_v8_8 X).trans (saved8_trip h)
  unfold step
  unfold stateOf at *
  rw [e4, e5, e6, e7, e8, STEP_main_v8_0, STEP_main_v8_1, STEP_main_v8_2]

variable (m : (ℓ : Loc nD τ sig) → Buf (Elt F) ℓ) (ρ : Dev nD → PrngReg)

/-- The state before trip `n`, on core `c`. -/
def refState (c : Dev nD) : ℕ → State F
  | 0 => init (m ((c.tc : Thread nD τ).loc main_arg3)) (m ((c.tc : Thread nD τ).loc main_arg4)) (m ((c.tc : Thread nD τ).loc main_arg0))
      (m ((c.tc : Thread nD τ).loc main_arg1)) (m ((c.tc : Thread nD τ).loc main_arg2))
  | n + 1 => step n (refState c n)

set_option maxHeartbeats 4000000 in
/-- The loop is entered at the first state. -/
theorem entry_state (c : Dev nD) : stateOf (entryContents preI m c) = refState m c 0 := by
  unfold stateOf refState init
  congr 1 <;> (simp only [entryContents, afterL_cons, afterL_nil]; after_reads_simp) <;> rfl

/-- Before trip `n` the buffers hold the counter `n` and the state `refState n`. -/
theorem before_trip (c : Dev nD) : ∀ n, AtTrip (STEP^[n] (entryContents preI m c)) n ∧ stateOf (STEP^[n] (entryContents preI m c)) = refState m c n
  | 0 => ⟨ctr_entry m c, entry_state m c⟩
  | n + 1 => by
    obtain ⟨h, e⟩ := before_trip c n
    rw [Function.iterate_succ_apply']
    exact ⟨h.next, (trip_state h).trans (by rw [e]; rfl)⟩

/-- The first result of the run, read at the state after `n` trips. -/
theorem readout_at (c : Dev nD) (n : ℕ) : out_main_v12 (STEP^[n] (entryContents preI m c))
    = R_main_v12 (refState m c n) (m ((c.tc : Thread nD τ).loc main_arg5)) (m ((c.tc : Thread nD τ).loc main_arg6)) := by
  have e : (STEP^[n] (entryContents preI m c)) (Proc.devRef .tc main_v8_6) = (refState m c n).main_v8_6 :=
    congrArg State.main_v8_6 (before_trip m c n).2
  unfold R_main_v12 out_main_v12
  rw [iter_main_arg5, iter_main_arg6, e]

/-- The three saved arrays, read at the state after `n` trips. -/
theorem saved_at (c : Dev nD) (n : ℕ) :
    (STEP^[n] (entryContents preI m c)) (Proc.devRef .tc main_v8_6) = (refState m c n).main_v8_6
    ∧ (STEP^[n] (entryContents preI m c)) (Proc.devRef .tc main_v8_7) = (refState m c n).main_v8_7
    ∧ (STEP^[n] (entryContents preI m c)) (Proc.devRef .tc main_v8_8) = (refState m c n).main_v8_8 :=
  ⟨congrArg State.main_v8_6 (before_trip m c n).2, congrArg State.main_v8_7 (before_trip m c n).2,
    congrArg State.main_v8_8 (before_trip m c n).2⟩

/-- What the reference returns first: the readout of the saved positions. -/
def refOut (c : Dev nD) : (⟨S1024x64x128, .f32⟩ : BufTy).Contents (Elt F) :=
  R_main_v12 (refState m c 1024) (m ((c.tc : Thread nD τ).loc main_arg5)) (m ((c.tc : Thread nD τ).loc main_arg6))

/-- The reference's run: every execution ends with the four results read off the last state, the arguments unchanged. -/
theorem ref_run : θ_run (defs (F := F)) (onTc (τ := τ) (main (F := F))) ⟨m, fun _ => 0, ρ⟩ fun r => ∀ c : Dev nD,
      r.2.mem ((c.tc : Thread nD τ).loc main_v12) = refOut m c
      ∧ r.2.mem ((c.tc : Thread nD τ).loc main_v8_6) = (refState m c 1024).main_v8_6
      ∧ r.2.mem ((c.tc : Thread nD τ).loc main_v8_7) = (refState m c 1024).main_v8_7
      ∧ r.2.mem ((c.tc : Thread nD τ).loc main_v8_8) = (refState m c 1024).main_v8_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := F)) _ _).mono (fun r h c => ?_) (Value.run m ρ)
  exact ⟨(h c).1.trans (readout_at m c 1024), (h c).2.1.trans (saved_at m c 1024).1, (h c).2.2.1.trans (saved_at m c 1024).2.1,
    (h c).2.2.2.1.trans (saved_at m c 1024).2.2, (h c).2.2.2.2⟩

/-- Every execution of the reference ends with the arguments unchanged and every semaphore at zero. -/
theorem ref_quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := F)) _ _).mono (fun r h => ⟨fun c => (h c).2.2.2.2, sem_eq_zero_of_no_sems (by decide) r.2⟩) (ref_run m ρ)

end Cert.Own.Ref
end
-- ==== Proof.Equation.lean ====
/-
  The kernel and the reference end with the same four results, over the extended reals, from equal arguments.
-/
module

public import proofs.«01_k».proof.Defs
public import proofs.«01_k».proof.Proof.TimeEq
public import proofs.«01_k».proof.Proof.RefRun
public import Idealize.ShloMosaic.Lib.Claim

@[expose] public section

set_option maxRecDepth 16384

noncomputable section

namespace Cert.Own

open Idealize.ShloMosaic Idealize.ShloMosaic.TcCoe Idealize.SL.Sem Cert.KernelIdeal Cert.KernelIdeal.Gen

section
variable {F : FTy → Type} [FloatOps F]
variable (m : (ℓ : Loc nD τ sig) → Buf (Elt F) ℓ) (ρ : Dev nD → PrngReg)

/-- Every execution of the kernel ends with the four results at the arrays its grid leaves, the arguments unchanged. -/
theorem kernel_run : θ_run defs (onTc (τ := τ) (main (F := F))) ⟨m, fun _ => 0, ρ⟩ (fun r => ∀ c : Dev nD,
      r.2.mem ((c.tc : Thread nD τ).loc main_v7_0) = (dats m 0 c).arrAt 6 cfg0.N
      ∧ r.2.mem ((c.tc : Thread nD τ).loc main_v7_1) = (dats m 0 c).arrAt 7 cfg0.N
      ∧ r.2.mem ((c.tc : Thread nD τ).loc main_v7_2) = (dats m 0 c).arrAt 8 cfg0.N
      ∧ r.2.mem ((c.tc : Thread nD τ).loc main_v7_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1.1 c).1 6, (h.1.1 c).1 7, (h.1.1 c).1 8, (h.1.1 c).1 9, h.2.1 c⟩)
    (θ_run_and (launch_run m ρ) (kernel_quiet m ρ))

end

/-- The reference's states, from arguments equal to the kernel's, run from the kernel's arguments. -/
theorem runs_from (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4)) :
    RunsFrom m c (Ref.refState m' c) where
  zero := by
    unfold Ref.refState
    rw [e0, e1, e2, e3, e4]
  succ n := rfl

/-- The algebraic claim: from equal arguments both run and end with equal results. -/
theorem same_results : @Cert.algebraic_KernelIdeal_ReferenceIdeal Cert.KernelIdeal.Gen.facts Cert.ReferenceIdeal.Gen.facts := by
  intro m g m' g' _ e
  have S := fun c => runs_from m m' c (e c).1 (e c).2.1 (e c).2.2.1 (e c).2.2.2.1 (e c).2.2.2.2.1
  refine ⟨fun c => (dats m 0 c).arrAt 6 cfg0.N, fun c => (dats m 0 c).arrAt 7 cfg0.N, fun c => (dats m 0 c).arrAt 8 cfg0.N,
    fun c => (dats m 0 c).arrAt 9 cfg0.N, kernel_run m g, ?_⟩
  refine (θ_run (Cert.ReferenceIdeal.defs (F := Ideal)) _ _).mono (fun r h c => ?_) (Ref.ref_run m' g')
  refine ⟨(h c).1.trans (Eq.trans ?_ (array_out m c (S c)).symm), (h c).2.1.trans (array_hy m c (S c)).symm,
    (h c).2.2.1.trans (array_hz m c (S c)).symm, (h c).2.2.2.1.trans (array_act m c (S c)).symm, (h c).2.2.2.2⟩
  unfold Ref.refOut
  rw [(e c).2.2.2.2.2.1, (e c).2.2.2.2.2.2]

end Cert.Own
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import proofs.«01_k».proof.Proof.Gen.ReferenceIdeal.Step
public import Idealize.ShloMosaic.Init
public import proofs.«01_k».proof.Proof.Transfer
public import proofs.«01_k».proof.Proof.Equation

@[expose] public section

noncomputable section

namespace Cert.Proof

open Idealize.ShloMosaic Idealize.SL.Sem Cert.Kernel

/-- The kernel's frame, over words: the kernel's program is the ideal program's text, whose frame holds at every reading of floats. -/
theorem frame_kernel : @Cert.quiescent_Kernel Cert.Kernel.Gen.facts := fun m g _ => by
  rw [Cert.Own.defs_eq, Cert.Own.main_eq]
  exact Cert.Own.kernel_quiet (F := Bits) m g

/-- The five claims. -/
theorem claim : Cert.Claim := ⟨Cert.Kernel.Gen.facts, Cert.KernelIdeal.Gen.facts, Cert.ReferenceIdeal.Gen.facts,
  frame_kernel, fun m g _ => Cert.Own.kernel_quiet (F := Ideal) m g, fun m g _ => Cert.Own.Ref.ref_quiet (F := Ideal) m g,
  trivial, Cert.Own.same_results⟩

end Cert.Proof

end
